-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2] ![[1], []] c) ((Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2] ![[1], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v106) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x1 : Shape := ⟨2, ![512, 1]⟩
abbrev S_ : Shape := ⟨0, ![]⟩
abbrev S512 : Shape := ⟨1, ![512]⟩

class Facts : Prop where
  slices_S512x4_S512x1_0_0 : S512x4.Slices ![0, 0] S512x1
  slices_S512x4_S512x1_0_1 : S512x4.Slices ![0, 1] S512x1
  slices_S512x4_S512x1_0_2 : S512x4.Slices ![0, 2] S512x1
  slices_S512x4_S512x1_0_3 : S512x4.Slices ![0, 3] S512x1
  reducesTo_S512x4_S512_d1 : S512x4.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn_part1 {F : FTy → Type} [FloatOps F] (main_v1 : FVec F S512x1 .f32) (main_v2 : FVec F S512x1 .f32) (main_v3 : FVec F S512x1 .f32) (main_v4 : FVec F S512x1 .f32) (main_v20 : IVec S512x1 1) (main_v21 : IVec S512x1 1) : IVec S512x512 1 :=
  let main_v22 : IVec S512x1 1 := cmpf .ogt main_v1 main_v3
  let main_v23 : IVec S512x1 1 := cmpf .ogt main_v4 main_v3
  let main_v24 : IVec S512x1 1 := andi main_v22 main_v23
  let main_v25 : IVec S512x1 1 := ori main_v21 main_v24
  let main_v26 : IVec S512x1 1 := andi main_v20 main_v25
  let main_v27 : IVec S512x1 1 := cmpf .une main_v4 main_v1
  let main_v28 : IVec S512x1 1 := cmpf .ogt main_v2 main_v4
  let main_v29 : IVec S512x1 1 := cmpf .ogt main_v3 main_v4
  let main_v30 : IVec S512x1 1 := andi main_v28 main_v29
  let main_v31 : IVec S512x1 1 := ori main_v27 main_v30
  let main_v32 : IVec S512x1 1 := andi main_v26 main_v31
  let main_v33 : IVec S512x1 1 := cmpf .une main_v4 main_v2
  let main_v34 : IVec S512x1 1 := cmpf .ogt main_v1 main_v4
  let main_v35 : IVec S512x1 1 := cmpf .ogt main_v3 main_v4
  let main_v36 : IVec S512x1 1 := andi main_v34 main_v35
  let main_v37 : IVec S512x1 1 := ori main_v33 main_v36
  let main_v38 : IVec S512x1 1 := andi main_v32 main_v37
  let main_v39 : IVec S512x1 1 := cmpf .une main_v4 main_v3
  let main_v40 : IVec S512x1 1 := cmpf .ogt main_v1 main_v4
  let main_v41 : IVec S512x1 1 := cmpf .ogt main_v2 main_v4
  let main_v42 : IVec S512x1 1 := andi main_v40 main_v41
  let main_v43 : IVec S512x1 1 := ori main_v39 main_v42
  let main_v44 : IVec S512x1 1 := andi main_v38 main_v43
  let main_v45 : IVec S512x512 1 := broadcastInDim S512x512 ![0, 1] bcast_S512x1_S512x512_0_1 main_v44
  main_v45

def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_v1 : FVec F S512x1 .f32 := (extractStridedSlice S512x1 ![0, 0] · slices_S512x4_S512x1_0_0) main_v0
  let main_v2 : FVec F S512x1 .f32 := (extractStridedSlice S512x1 ![0, 1] · slices_S512x4_S512x1_0_1) main_v0
  let main_v3 : FVec F S512x1 .f32 := (extractStridedSlice S512x1 ![0, 2] · slices_S512x4_S512x1_0_2) main_v0
  let main_v4 : FVec F S512x1 .f32 := (extractStridedSlice S512x1 ![0, 3] · slices_S512x4_S512x1_0_3) main_v0
  let main_cst : FVec F S_ .f32 := constant S_ .f32 0xFF800000#32
  let main_v5 : FVec F S512 .f32 := (fun x v => Host.reduce FloatOps.maximumf x v reducesTo_S512x4_S512_d1 h_S_) main_v0 main_cst
  let main_v6 : FVec F S512x1 .f32 := broadcastInDim S512x1 ![0] bcast_S512_S512x1_0 main_v5
  let main_cst_0 : FVec F S_ .f32 := constant S_ .f32 0x7F800000#32
  let main_v7 : FVec F S512x1 .f32 := broadcastInDim S512x1 ![] bcast_S_S512x1 main_cst_0
  let main_v8 : IVec S512x1 1 := cmpf .olt main_v6 main_v7
  let main_v9 : IVec S512x1 1 := cmpf .une main_v2 main_v1
  let main_v10 : IVec S512x1 1 := cmpf .ogt main_v3 main_v2
  let main_v11 : IVec S512x1 1 := cmpf .ogt main_v4 main_v2
  let main_v12 : IVec S512x1 1 := andi main_v10 main_v11
  let main_v13 : IVec S512x1 1 := ori main_v9 main_v12
  let main_v14 : IVec S512x1 1 := andi main_v8 main_v13
  let main_v15 : IVec S512x1 1 := cmpf .une main_v3 main_v1
  let main_v16 : IVec S512x1 1 := cmpf .ogt main_v2 main_v3
  let main_v17 : IVec S512x1 1 := cmpf .ogt main_v4 main_v3
  let main_v18 : IVec S512x1 1 := andi main_v16 main_v17
  let main_v19 : IVec S512x1 1 := ori main_v15 main_v18
  let main_v20 : IVec S512x1 1 := andi main_v14 main_v19
  let main_v21 : IVec S512x1 1 := cmpf .une main_v3 main_v2
  fn_part1 (F := F) main_v1 main_v2 main_v3 main_v4 main_v20 main_v21
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S128x512 : Shape := ⟨2, ![128, 512]⟩
abbrev S2x64x512 : Shape := ⟨3, ![2, 64, 512]⟩
abbrev S2 : Shape := ⟨1, ![2]⟩
abbrev S_ : Shape := ⟨0, ![]⟩
abbrev S1 : Shape := ⟨1, ![1]⟩
abbrev S1x64x512 : Shape := ⟨3, ![1, 64, 512]⟩
abbrev S64x512 : Shape := ⟨2, ![64, 512]⟩
abbrev S256x2 : Shape := ⟨2, ![256, 2]⟩
abbrev S256x4 : Shape := ⟨2, ![256, 4]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S256x1024 : Shape := ⟨2, ![256, 1024]⟩
abbrev S1x1024x512 : Shape := ⟨3, ![1, 1024, 512]⟩
abbrev S1024x512 : Shape := ⟨2, ![1024, 512]⟩
abbrev S64x2 : Shape := ⟨2, ![64, 2]⟩
abbrev S64x4 : Shape := ⟨2, ![64, 4]⟩
abbrev S64 : Shape := ⟨1, ![64]⟩
abbrev S64x1 : Shape := ⟨2, ![64, 1]⟩
abbrev S64x1024 : Shape := ⟨2, ![64, 1024]⟩

abbrev nBuf : Space → Nat
  | .hbm => 5
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S256x512, .f32⟩
  | .local _ .vmem, ⟨5, _⟩ => ⟨S128x512, .f32⟩
  | .local _ .vmem, ⟨6, _⟩ => ⟨S2x64x512, .f32⟩
  | .local _ .vmem, ⟨7, _⟩ => ⟨S512x2, .f32⟩
  | .local _ .vmem, ⟨8, _⟩ => ⟨S2x64x512, .f32⟩
  | .local _ .vmem, ⟨9, _⟩ => ⟨S2x64x512, .f32⟩
  | .local _ .vmem, ⟨10, _⟩ => ⟨S2x64x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v9 : BitVec 32 := Scalar.muli v2 c2_i32_4
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v11 : BitVec 32 := Scalar.addi v9 v10
  v11.toNat
def k0_dev2 (d0 : Dev nD) : Nat :=
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_7 v2
  let c2_i32_8 : BitVec 32 := 2#32
  let v13 : BitVec 32 := Scalar.muli v12 c2_i32_8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v14 : BitVec 32 := Scalar.addi v13 v5
  v14.toNat
def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v24 : BitVec 32 := Scalar.muli v2 c2_i32_17
  let v25 : BitVec 32 := Scalar.addi c0_i32_18 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v26 : BitVec 32 := Scalar.muli v6 c1_i32_19
  let v27 : BitVec 32 := Scalar.addi v25 v26
  v27.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v35 : BitVec 32 := Scalar.muli v2 c2_i32_27
  let v36 : BitVec 32 := Scalar.addi c0_i32_28 v35
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v37 : BitVec 32 := Scalar.muli v6 c1_i32_29
  let v38 : BitVec 32 := Scalar.addi v36 v37
  v38.toNat
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v46 : BitVec 32 := Scalar.muli v2 c2_i32_33
  let v47 : BitVec 32 := Scalar.addi c0_i32_34 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v48 : BitVec 32 := Scalar.muli v6 c1_i32_35
  let v49 : BitVec 32 := Scalar.addi v47 v48
  v49.toNat
def k0_dev6 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v174 : BitVec 32 := Scalar.muli v2 c2_i32_114
  let v175 : BitVec 32 := Scalar.addi c0_i32_115 v174
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v176 : BitVec 32 := Scalar.muli v6 c1_i32_116
  let v177 : BitVec 32 := Scalar.addi v175 v176
  v177.toNat
def k0_dev7 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v261 : BitVec 32 := Scalar.muli v2 c2_i32_176
  let v262 : BitVec 32 := Scalar.addi c0_i32_177 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_178 : BitVec 32 := 1#32
  let v263 : BitVec 32 := Scalar.muli v6 c1_i32_178
  let v264 : BitVec 32 := Scalar.addi v262 v263
  v264.toNat
def k0_dev8 (d0 : Dev nD) : Nat :=
  let c0_i32_217 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_216 : BitVec 32 := 2#32
  let v301 : BitVec 32 := Scalar.muli v7 c2_i32_216
  let v302 : BitVec 32 := Scalar.addi c0_i32_217 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v303 : BitVec 32 := Scalar.muli v5 c1_i32_218
  let v304 : BitVec 32 := Scalar.addi v302 v303
  v304.toNat
def k0_dev9 (d0 : Dev nD) : Nat :=
  let c0_i32_248 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_247 : BitVec 32 := 2#32
  let v329 : BitVec 32 := Scalar.muli v7 c2_i32_247
  let v330 : BitVec 32 := Scalar.addi c0_i32_248 v329
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v331 : BitVec 32 := Scalar.muli v5 c1_i32_249
  let v332 : BitVec 32 := Scalar.addi v330 v331
  v332.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 160
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S1x512x1024, .f32⟩
  | 21 => ⟨S512x1024, .f32⟩
  | 22 => ⟨S512x1024, .f32⟩
  | 23 => ⟨S_, .f32⟩
  | 24 => ⟨S512x1024, .f32⟩
  | 25 => ⟨S512x1024, .f32⟩
  | 26 => ⟨S1x1024x512, .f32⟩
  | 27 => ⟨S1024x512, .f32⟩
  | 28 => ⟨S512x512, .f32⟩
  | 29 => ⟨S512x1, .i32⟩
  | 30 => ⟨S_, .i32⟩
  | 31 => ⟨S512x1, .i32⟩
  | 32 => ⟨S512x1, .i1⟩
  | 33 => ⟨S512x1, .f32⟩
  | 34 => ⟨S512x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S512x1, .i32⟩
  | 43 => ⟨S_, .i32⟩
  | 44 => ⟨S512x1, .i32⟩
  | 45 => ⟨S512x1, .i1⟩
  | 46 => ⟨S512x1, .f32⟩
  | 47 => ⟨S512x512, .f32⟩
  | 48 => ⟨S512x512, .f32⟩
  | 49 => ⟨S_, .f32⟩
  | 50 => ⟨S_, .f32⟩
  | 51 => ⟨S512x512, .i1⟩
  | 52 => ⟨S512x512, .f32⟩
  | 53 => ⟨S512x512, .f32⟩
  | 54 => ⟨S512x512, .f32⟩
  | 55 => ⟨S1x512x1024, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S1x1024x512, .f32⟩
  | 62 => ⟨S1024x512, .f32⟩
  | 63 => ⟨S512x512, .f32⟩
  | 64 => ⟨S512x1, .i32⟩
  | 65 => ⟨S_, .i32⟩
  | 66 => ⟨S512x1, .i32⟩
  | 67 => ⟨S512x1, .i1⟩
  | 68 => ⟨S512x1, .f32⟩
  | 69 => ⟨S512x512, .f32⟩
  | 70 => ⟨S512x512, .f32⟩
  | 71 => ⟨S_, .f32⟩
  | 72 => ⟨S_, .f32⟩
  | 73 => ⟨S512x512, .i1⟩
  | 74 => ⟨S512x512, .f32⟩
  | 75 => ⟨S512x512, .f32⟩
  | 76 => ⟨S512x512, .f32⟩
  | 77 => ⟨S512x1, .i32⟩
  | 78 => ⟨S_, .i32⟩
  | 79 => ⟨S512x1, .i32⟩
  | 80 => ⟨S512x1, .i1⟩
  | 81 => ⟨S512x1, .f32⟩
  | 82 => ⟨S512x512, .f32⟩
  | 83 => ⟨S512x512, .f32⟩
  | 84 => ⟨S_, .f32⟩
  | 85 => ⟨S_, .f32⟩
  | 86 => ⟨S512x512, .i1⟩
  | 87 => ⟨S512x512, .f32⟩
  | 88 => ⟨S512x512, .f32⟩
  | 89 => ⟨S512x512, .f32⟩
  | 90 => ⟨S1x512x1024, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x512, .f32⟩
  | 97 => ⟨S1024x512, .f32⟩
  | 98 => ⟨S512x512, .f32⟩
  | 99 => ⟨S512x1, .i32⟩
  | 100 => ⟨S_, .i32⟩
  | 101 => ⟨S512x1, .i32⟩
  | 102 => ⟨S512x1, .i1⟩
  | 103 => ⟨S512x1, .f32⟩
  | 104 => ⟨S512x512, .f32⟩
  | 105 => ⟨S512x512, .f32⟩
  | 106 => ⟨S_, .f32⟩
  | 107 => ⟨S_, .f32⟩
  | 108 => ⟨S512x512, .i1⟩
  | 109 => ⟨S512x512, .f32⟩
  | 110 => ⟨S512x512, .f32⟩
  | 111 => ⟨S512x512, .f32⟩
  | 112 => ⟨S512x1, .i32⟩
  | 113 => ⟨S_, .i32⟩
  | 114 => ⟨S512x1, .i32⟩
  | 115 => ⟨S512x1, .i1⟩
  | 116 => ⟨S512x1, .f32⟩
  | 117 => ⟨S512x512, .f32⟩
  | 118 => ⟨S512x512, .f32⟩
  | 119 => ⟨S_, .f32⟩
  | 120 => ⟨S_, .f32⟩
  | 121 => ⟨S512x512, .i1⟩
  | 122 => ⟨S512x512, .f32⟩
  | 123 => ⟨S512x512, .f32⟩
  | 124 => ⟨S512x512, .f32⟩
  | 125 => ⟨S1x512x1024, .f32⟩
  | 126 => ⟨S512x1024, .f32⟩
  | 127 => ⟨S512x1024, .f32⟩
  | _ => ⟨S512x512, .f32⟩

abbrev hbmTy0_1 (i : Nat) : BufTy := match i % 128 with
  | 0 => ⟨S_, .f32⟩
  | 1 => ⟨S512x1024, .f32⟩
  | 2 => ⟨S512x1024, .f32⟩
  | 3 => ⟨S1x1024x512, .f32⟩
  | 4 => ⟨S1024x512, .f32⟩
  | 5 => ⟨S512x512, .f32⟩
  | 6 => ⟨S512x1, .i32⟩
  | 7 => ⟨S_, .i32⟩
  | 8 => ⟨S512x1, .i32⟩
  | 9 => ⟨S512x1, .i1⟩
  | 10 => ⟨S512x1, .f32⟩
  | 11 => ⟨S512x512, .f32⟩
  | 12 => ⟨S512x512, .f32⟩
  | 13 => ⟨S_, .f32⟩
  | 14 => ⟨S_, .f32⟩
  | 15 => ⟨S512x512, .i1⟩
  | 16 => ⟨S512x512, .f32⟩
  | 17 => ⟨S512x512, .f32⟩
  | 18 => ⟨S512x512, .f32⟩
  | 19 => ⟨S512x1, .i32⟩
  | 20 => ⟨S_, .i32⟩
  | 21 => ⟨S512x1, .i32⟩
  | 22 => ⟨S512x1, .i1⟩
  | 23 => ⟨S512x1, .f32⟩
  | 24 => ⟨S512x512, .f32⟩
  | 25 => ⟨S512x512, .f32⟩
  | 26 => ⟨S_, .f32⟩
  | 27 => ⟨S_, .f32⟩
  | 28 => ⟨S512x512, .i1⟩
  | 29 => ⟨S512x512, .f32⟩
  | 30 => ⟨S512x512, .f32⟩
  | 31 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_19 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_20 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v105 : Ref sig .tc := ⟨.hbm, 158, rfl⟩
abbrev main_v106 : Ref sig .tc := ⟨.hbm, 159, rfl⟩

abbrev nD : Nat := 1
abbrev τ : Topo := Topo.v7x

variable {F : FTy → Type} [FloatOps F]
-- ==== Proof.Protocol.lean ====
/-
# The protocol of the expert exchange on a mesh of 2×2 devices

A device sends half of its token rows to its neighbour along `y` (which holds the other experts of the same
tokens), gets the same half's partial sums back, and forwards the partial sums it was given to its neighbour
along `x`. Seven remote copies a device: 0, 1 the token rows (to `yp`), 2 the router columns (to `yp`),
3, 4 the partial sums (to `yp`), 5, 6 the same sums forwarded (to `xn`). Every cell has one round:

* the barrier cell: two units, one from `yp` — with the buffers this device will write on `yp` —, one from `xn` —
  with the buffers it will write on `xn`;
* a send cell: the copy's source back;
* a receive cell: the landing buffer, at its contents.

A wait is allowed below everything its device still owes: barrier 1, token rows and router columns 2, partial sums 3,
forwarded sums 4, send cells 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The neighbour along `y`. -/
def yp : Dev nD → Dev nD := fun | 0 => 1 | 1 => 0 | 2 => 3 | 3 => 2
/-- The neighbour along `x`. -/
def xn : Dev nD → Dev nD := fun | 0 => 2 | 1 => 3 | 2 => 0 | 3 => 1

theorem yp_yp (c : Dev nD) : yp (yp c) = c := by revert c; decide
theorem xn_xn (c : Dev nD) : xn (xn c) = c := by revert c; decide
def ypE : Dev nD ≃ Dev nD := ⟨yp, yp, yp_yp, yp_yp⟩
def xnE : Dev nD ≃ Dev nD := ⟨xn, xn, xn_xn, xn_xn⟩

theorem dev1_eq (c : Dev nD) : (⟨k0_dev1 c, k0_dev1_lt c⟩ : Dev nD) = yp c := by revert c; decide
theorem dev2_eq (c : Dev nD) : (⟨k0_dev2 c, k0_dev2_lt c⟩ : Dev nD) = xn c := by revert c; decide
theorem dev3_eq (c : Dev nD) : (⟨k0_dev3 c, k0_dev3_lt c⟩ : Dev nD) = yp c := by revert c; decide
theorem dev4_eq (c : Dev nD) : (⟨k0_dev4 c, k0_dev4_lt c⟩ : Dev nD) = yp c := by revert c; decide
theorem dev5_eq (c : Dev nD) : (⟨k0_dev5 c, k0_dev5_lt c⟩ : Dev nD) = yp c := by revert c; decide
theorem dev6_eq (c : Dev nD) : (⟨k0_dev6 c, k0_dev6_lt c⟩ : Dev nD) = yp c := by revert c; decide
theorem dev7_eq (c : Dev nD) : (⟨k0_dev7 c, k0_dev7_lt c⟩ : Dev nD) = yp c := by revert c; decide
theorem dev8_eq (c : Dev nD) : (⟨k0_dev8 c, k0_dev8_lt c⟩ : Dev nD) = xn c := by revert c; decide
theorem dev9_eq (c : Dev nD) : (⟨k0_dev9 c, k0_dev9_lt c⟩ : Dev nD) = xn c := by revert c; decide

/-! ## Buffers -/

abbrev xM : Memref sig .tc .vmem S256x512 .f32 := Memref.whole cc0_stg0_0
abbrev rM : Memref sig .tc .vmem S512x2 .f32 := Memref.whole cc0_stg1_0
abbrev w1M : Memref sig .tc .vmem S2x512x1024 .f32 := Memref.whole cc0_stg2_0
abbrev w2M : Memref sig .tc .vmem S2x1024x512 .f32 := Memref.whole cc0_stg3_0
abbrev oM : Memref sig .tc .vmem S256x512 .f32 := Memref.whole cc0_stg4_0
abbrev xsM : Memref sig .tc .vmem S128x512 .f32 := Memref.whole cc0_scratch0
abbrev xoM : Memref sig .tc .vmem S2x64x512 .f32 := Memref.whole cc0_scratch1
abbrev roM : Memref sig .tc .vmem S512x2 .f32 := Memref.whole cc0_scratch2
abbrev psM : Memref sig .tc .vmem S2x64x512 .f32 := Memref.whole cc0_scratch3
abbrev cdM : Memref sig .tc .vmem S2x64x512 .f32 := Memref.whole cc0_scratch4
abbrev cfM : Memref sig .tc .vmem S2x64x512 .f32 := Memref.whole cc0_scratch5

abbrev rc0 : Rect S2x64x512 := Rect.unit (s := S2x64x512) ![0, 0, 0] S1x64x512.size inb_S2x64x512_S1x64x512_0_0_0
abbrev rc1 : Rect S2x64x512 := Rect.unit (s := S2x64x512) ![1, 0, 0] S1x64x512.size inb_S2x64x512_S1x64x512_1_0_0
/-- The two slots of a buffer of two tiles. -/
abbrev sl0 (M : Memref sig .tc .vmem S2x64x512 .f32) : Memref sig .tc .vmem S1x64x512 .f32 := M.slice rc0 (fun _ => rfl)
abbrev sl1 (M : Memref sig .tc .vmem S2x64x512 .f32) : Memref sig .tc .vmem S1x64x512 .f32 := M.slice rc1 (fun _ => rfl)
abbrev sq (M : Memref sig .tc .vmem S1x64x512 .f32) : Memref sig .tc .vmem S64x512 .f32 := M.squeeze S64x512 squeezes_S1x64x512_S64x512
abbrev rh0 : Rect S128x512 := Rect.unit (s := S128x512) ![0, 0] S64x512.size inb_S128x512_S64x512_0_0
abbrev rh1 : Rect S128x512 := Rect.unit (s := S128x512) ![64, 0] S64x512.size inb_S128x512_S64x512_64_0
/-- The two halves of the rows to send. -/
abbrev hs0 : Memref sig .tc .vmem S64x512 .f32 := xsM.slice rh0 (fun _ => rfl)
abbrev hs1 : Memref sig .tc .vmem S64x512 .f32 := xsM.slice rh1 (fun _ => rfl)

/-! ## Cells -/

abbrev barS : Sem sig := (SemArray.scalar (sig.barrier 0 rfl) : Sems sig S_).sem
abbrev e0 (a : DmaSems sig S2) : DmaSem sig := ((a.slice (Rect.unit (s := S2) ![0] S1.size inb_S2_S1_0)).squeeze S_ squeezes_S1_S_).sem
abbrev e1 (a : DmaSems sig S2) : DmaSem sig := ((a.slice (Rect.unit (s := S2) ![1] S1.size inb_S2_S1_1)).squeeze S_ squeezes_S1_S_).sem

/-- Barrier; the send cells of the seven copies; their receive cells. -/
abbrev csem : Fin 15 → SemLoc sig := fun
  | 0 => .reg barS
  | 1 => .dma (e0 cc0_scratch6) | 2 => .dma (e1 cc0_scratch6) | 3 => .dma cc0_scratch12.sem
  | 4 => .dma (e0 cc0_scratch8) | 5 => .dma (e1 cc0_scratch8) | 6 => .dma (e0 cc0_scratch10) | 7 => .dma (e1 cc0_scratch10)
  | 8 => .dma (e0 cc0_scratch7) | 9 => .dma (e1 cc0_scratch7) | 10 => .dma cc0_scratch13.sem
  | 11 => .dma (e0 cc0_scratch9) | 12 => .dma (e1 cc0_scratch9) | 13 => .dma (e0 cc0_scratch11) | 14 => .dma (e1 cc0_scratch11)

abbrev kcell (ck : Dev nD × Fin 15) : GSem nD τ sig := ((ck.1 : Thread nD τ), csem ck.2)

theorem csem_inj : ∀ k k' : Fin 15, csem k = csem k' → k = k' := by decide

theorem kcell_injective : Function.Injective (kcell : Dev nD × Fin 15 → GSem nD τ sig) := by
  rintro ⟨c, k⟩ ⟨c', k'⟩ h
  have h1 : c = c' := congrArg (fun g : GSem nD τ sig => g.1.1) h
  have h2 : csem k = csem k' := congrArg Prod.snd h
  rw [h1, csem_inj k k' h2]

/-- Which of the protocol's cells a semaphore is. -/
def kindOf (s : SemLoc sig) : Option (Fin 15) := (List.finRange 15).find? fun k => csem k = s

theorem kindOf_csem : ∀ k : Fin 15, kindOf (csem k) = some k := by decide

/-- What a copy of a tile, and of the router columns, credits. -/
def N : ℕ := (sq (sl0 xoM)).view.dmaCredit
def Nr : ℕ := (roM : Memref sig .tc .vmem S512x2 .f32).view.dmaCredit
theorem N_pos : 0 < N := View.dmaCredit_pos _ (by decide)
theorem Nr_pos : 0 < Nr := View.dmaCredit_pos _ (by decide)

/-- The units of one duty of a cell. -/
def amt : Fin 15 → ℕ := fun
  | 0 => 1
  | 3 => Nr | 10 => Nr
  | _ => N
theorem amt_pos (k : Fin 15) : 0 < amt k := by
  fin_cases k <;> first | exact Nat.one_pos | exact N_pos | exact Nr_pos

/-- A cell's level. -/
def klev : Fin 15 → ℕ := fun
  | 0 => 1
  | 8 => 2 | 9 => 2 | 10 => 2
  | 11 => 3 | 12 => 3
  | 13 => 4 | 14 => 4
  | _ => 0

/-! ## Contents -/

/-- The operands' blocks on device `c`. -/
def xst (c : Dev nD) : Vec F S256x512 .f32 := (win0_0.blk (0 : Fin 1)).view.read (Elt F) ((s₀ m ρ).mem ((c : Thread nD τ).loc main_arg0))
def rst (c : Dev nD) : Vec F S512x2 .f32 := (win0_1.blk (0 : Fin 1)).view.read (Elt F) ((s₀ m ρ).mem ((c : Thread nD τ).loc main_arg1))
def w1st (c : Dev nD) : Vec F S2x512x1024 .f32 := (win0_2.blk (0 : Fin 1)).view.read (Elt F) ((s₀ m ρ).mem ((c : Thread nD τ).loc main_arg2))
def w2st (c : Dev nD) : Vec F S2x1024x512 .f32 := (win0_3.blk (0 : Fin 1)).view.read (Elt F) ((s₀ m ρ).mem ((c : Thread nD τ).loc main_arg3))

abbrev rA0 : Rect S2x512x1024 := Rect.unit (s := S2x512x1024) ![0, 0, 0] S1x512x1024.size inb_S2x512x1024_S1x512x1024_0_0_0
abbrev rA1 : Rect S2x512x1024 := Rect.unit (s := S2x512x1024) ![1, 0, 0] S1x512x1024.size inb_S2x512x1024_S1x512x1024_1_0_0
abbrev rB0 : Rect S2x1024x512 := Rect.unit (s := S2x1024x512) ![0, 0, 0] S1x1024x512.size inb_S2x1024x512_S1x1024x512_0_0_0
abbrev rB1 : Rect S2x1024x512 := Rect.unit (s := S2x1024x512) ![1, 0, 0] S1x1024x512.size inb_S2x1024x512_S1x1024x512_1_0_0

/-- The two experts' matrices on device `c`. -/
def wA0 (c : Dev nD) : Vec F S1x512x1024 .f32 := w1M.view.readAt (Elt F) rA0.toLoadRect (w1st m ρ c)
def wA1 (c : Dev nD) : Vec F S1x512x1024 .f32 := w1M.view.readAt (Elt F) rA1.toLoadRect (w1st m ρ c)
def wB0 (c : Dev nD) : Vec F S1x1024x512 .f32 := w2M.view.readAt (Elt F) rB0.toLoadRect (w2st m ρ c)
def wB1 (c : Dev nD) : Vec F S1x1024x512 .f32 := w2M.view.readAt (Elt F) rB1.toLoadRect (w2st m ρ c)

/-- The rows device `c` sends. -/
def xs (c : Dev nD) : Vec F S128x512 .f32 := k0_pay4 c (xst m ρ c)
/-- The rows it is sent, and the router columns. -/
def xo0 (c : Dev nD) : Vec F S1x64x512 .f32 :=
  shapeCast S1x64x512 (hs0.view.read (Elt F) (xs m ρ (yp c)) : Vec F S64x512 .f32) shapeCasts_S64x512_S1x64x512
def xo1 (c : Dev nD) : Vec F S1x64x512 .f32 :=
  shapeCast S1x64x512 (hs1.view.read (Elt F) (xs m ρ (yp c)) : Vec F S64x512 .f32) shapeCasts_S64x512_S1x64x512
def ro (c : Dev nD) : Vec F S512x2 .f32 := rst m ρ (yp c)
def rmine (c : Dev nD) : FVec F S512x2 .f32 := k0_pay5 (rst m ρ c)

/-- The partial sums of the rows it was sent, -/
def ps0 (c : Dev nD) : Vec F S1x64x512 .f32 :=
  k0_pay20 (k0_pay19 (k0_pay9 (xo0 m ρ c)) (k0_pay12 (rmine m ρ c) (ro m ρ c) (xo0 m ρ c)) (k0_pay15 (rmine m ρ c) (ro m ρ c) (xo0 m ρ c))
    (k0_pay16 (rmine m ρ c) (ro m ρ c) (xo0 m ρ c)) (k0_pay17 (rmine m ρ c) (ro m ρ c) (xo0 m ρ c)) k0_pay18
    (wA0 m ρ c) (wB0 m ρ c) (wA1 m ρ c) (wB1 m ρ c))
def ps1 (c : Dev nD) : Vec F S1x64x512 .f32 :=
  k0_pay25 (k0_pay21 (xo1 m ρ c)) (k0_pay22 (rmine m ρ c) (ro m ρ c) (xo1 m ρ c)) k0_pay23 (k0_pay24 (xo1 m ρ c) (wA0 m ρ c))
    (wB0 m ρ c) (wA1 m ρ c) (wB1 m ρ c)
/-- those it gets back for its own rows, and those forwarded to it. -/
def cd0 (c : Dev nD) : Vec F S1x64x512 .f32 := ps0 m ρ (yp c)
def cd1 (c : Dev nD) : Vec F S1x64x512 .f32 := ps1 m ρ (yp c)
def cf0 (c : Dev nD) : Vec F S1x64x512 .f32 := cd0 m ρ (xn c)
def cf1 (c : Dev nD) : Vec F S1x64x512 .f32 := cd1 m ρ (xn c)

/-- Its own experts' part of its own rows. -/
def mine (c : Dev nD) : FVec F S256x512 .f32 :=
  k0_pay26 (k0_pay3 (xst m ρ c))
    (k0_pay7 (k0_pay3 (xst m ρ c)) (ro m ρ c) (k0_pay6 (k0_pay3 (xst m ρ c)) (rst m ρ c)) (constant S256x2 .f32 0x00000000#32))
    (k0_pay8 (k0_pay3 (xst m ρ c)) (ro m ρ c) (k0_pay6 (k0_pay3 (xst m ρ c)) (rst m ρ c)) (constant S256x2 .f32 0x00000000#32) (wA0 m ρ c) (wB0 m ρ c))
    (wA1 m ρ c) (wB1 m ρ c)

/-! ## The schedule -/

/-- The memref at contents nothing is known of. -/
abbrev ownsAny (c : Dev nD) {sh : Shape} {e : EltTy} (M : Memref sig .tc .vmem sh e) (q : PosShare TreeShare) : sProp 𝕄 :=
  ownsSat (c : Thread nD τ) M q fun _ => True

/-- What `yp c` hands `c` with its barrier signal: its buffers `c` writes. -/
def payY (c : Dev nD) : sProp 𝕄 :=
  iprop(ownsAny c (sl0 xoM) fullShare ∗ ownsAny c (sl1 xoM) fullShare ∗ ownsAny c roM fullShare
    ∗ ownsAny c (sl0 cdM) fullShare ∗ ownsAny c (sl1 cdM) fullShare)
def payX (c : Dev nD) : sProp 𝕄 := iprop(ownsAny c (sl0 cfM) fullShare ∗ ownsAny c (sl1 cfM) fullShare)

/-- A duty's payload. -/
def pay (c : Dev nD) (k : Fin 15) (d : Bool) : sProp 𝕄 := match k with
  | 0 => if d then payX (xn c) else payY (yp c)
  | 1 => ownsAny c hs0 fullShare
  | 2 => ownsAny c hs1 fullShare
  | 3 => owns (c : Thread nD τ) rM fullShare (rst m ρ c)
  | 4 => ownsAny c (sl0 psM) fullShare
  | 5 => ownsAny c (sl1 psM) fullShare
  | 6 => ownsAny c (sl0 cdM) fullShare.right
  | 7 => ownsAny c (sl1 cdM) fullShare.right
  | 8 => owns (c : Thread nD τ) (sl0 xoM) fullShare (xo0 m ρ c)
  | 9 => owns (c : Thread nD τ) (sl1 xoM) fullShare (xo1 m ρ c)
  | 10 => owns (c : Thread nD τ) roM fullShare (ro m ρ c)
  | 11 => owns (c : Thread nD τ) (sl0 cdM) fullShare (cd0 m ρ c)
  | 12 => owns (c : Thread nD τ) (sl1 cdM) fullShare (cd1 m ρ c)
  | 13 => owns (c : Thread nD τ) (sl0 cfM) fullShare (cf0 m ρ c)
  | 14 => owns (c : Thread nD τ) (sl1 cfM) fullShare (cf1 m ρ c)

instance pay_storable (c : Dev nD) (k : Fin 15) (d : Bool) : BI.Storable (upEmb : UEmb _ 𝕄) (pay m ρ c k d) := by
  unfold pay payX payY
  split <;> (repeat' split) <;> (try simp only [owns_eq_ownsSat]) <;> infer_instance

/-- A cell's duties in its one round. -/
def dut (k : Fin 15) : Finset Bool := if k = 0 then Finset.univ else {false}

def rd : Rounds.Schedule (GSem nD τ sig) Bool 𝕄 where
  duties g r := if r = 0 ∧ g.1.2 = .tc then (kindOf g.2).elim ∅ dut else ∅
  unitless _ := False
  amount g _ _ := (kindOf g.2).elim 1 amt
  payload g _ d := (kindOf g.2).elim iprop(emp) fun k => pay m ρ g.1.1 k d
  amount_pos g _ _ _ := by
    cases kindOf g.2 with
    | none => exact Nat.one_pos
    | some k => exact amt_pos k

instance rd_payload_storable (g : GSem nD τ sig) (r : ℕ) (d : Bool) :
    BI.Storable (upEmb : UEmb _ 𝕄) ((rd (F := F) m ρ).payload g r d) := by
  show BI.Storable upEmb ((kindOf g.2).elim iprop(emp) fun k => pay m ρ g.1.1 k d)
  cases kindOf g.2 with
  | none => exact inferInstanceAs (BI.Storable upEmb iprop(emp))
  | some k => exact pay_storable m ρ g.1.1 k d

section Sched
variable (c : Dev nD) (k : Fin 15)

theorem duties_eq : (rd (F := F) m ρ).duties (kcell (c, k)) 0 = dut k := by
  dsimp only [rd]; rw [if_pos ⟨rfl, rfl⟩, kindOf_csem]; rfl
theorem duties_later (g : GSem nD τ sig) : ∀ r, 1 ≤ r → (rd (F := F) m ρ).duties g r = ∅ :=
  fun r hr => by dsimp only [rd]; rw [if_neg fun h => by omega]
theorem amount_eq (d : Bool) : (rd (F := F) m ρ).amount (kcell (c, k)) 0 d = amt k := by
  dsimp only [rd]; rw [kindOf_csem]; rfl
theorem payload_eq (d : Bool) : (rd (F := F) m ρ).payload (kcell (c, k)) 0 d = pay m ρ c k d := by
  dsimp only [rd]; rw [kindOf_csem]; rfl
theorem mem_duties_false : false ∈ (rd (F := F) m ρ).duties (kcell (c, k)) 0 := by
  rw [duties_eq]; revert k; decide

/-- A cell's units. -/
def tot (k : Fin 15) : ℕ := if k = 0 then 2 else amt k
/-- What a wait on a cell brings. -/
def rest (c : Dev nD) (k : Fin 15) : sProp 𝕄 := if k = 0 then iprop(payY (yp c) ∗ payX (xn c)) else pay m ρ c k false

theorem expect_eq : (rd (F := F) m ρ).expect (kcell (c, k)) 0 = tot k := by
  unfold Schedule.expect Schedule.amountOf
  rw [duties_eq, Finset.sum_congr rfl fun d _ => amount_eq m ρ c k d, Finset.sum_const]
  unfold dut tot
  by_cases h : k = 0
  · subst h; rfl
  · rw [if_neg h, if_neg h, Finset.card_singleton, smul_eq_mul, Nat.one_mul]

theorem rest_eq : bigSep ((rd (F := F) m ρ).duties (kcell (c, k)) 0 \ ∅) (fun d => (rd (F := F) m ρ).payload (kcell (c, k)) 0 d) = rest m ρ c k := by
  rw [Finset.sdiff_empty, duties_eq, bigSep_congr (fun d _ => payload_eq m ρ c k d)]
  unfold dut rest
  by_cases h : k = 0
  · subst h
    rw [if_pos rfl, if_pos rfl, bigSep_univ_eq_bigSepL [false, true] (by decide) (by decide), bigSepL_cons_cons, bigSepL_singleton]
    rfl
  · rw [if_neg h, if_neg h, bigSep_singleton]

end Sched

/-! ## What a device owes; the levels -/

/-- The tally of a list of payments, the first outermost. -/
def Osum : List (Dev nD × Fin 15) → CellTallies nD τ sig Unit
  | [] => 0
  | p :: l => Osum l + tallyAt (kcell p) () (amt p.2)

/-- What device `c` owes, in the order it pays. -/
def debts (c : Dev nD) : List (Dev nD × Fin 15) :=
  [(yp c, 0), (xn c, 0), (yp c, 8), (yp c, 9), (yp c, 10), (yp c, 11), (yp c, 12), (xn c, 13), (xn c, 14)]

def O₀ (c : Dev nD) : CellTallies nD τ sig Unit := Osum (debts c)

def L (g : GSem nD τ sig) : Finset Unit := if g.1.2 = .tc then {()} else ∅
def lv (g : GSem nD τ sig) (_ : Unit) : ℕ := (kindOf g.2).elim 0 klev

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × Fin 15) (u : Unit) : lv (kcell p) u = klev p.2 := by
  unfold lv; rw [kindOf_csem]; rfl

theorem Osum_apply (l : List (Dev nD × Fin 15)) (q : Dev nD × Fin 15) : Osum l (kcell q) () = l.count q * amt q.2 := by
  induction l with
  | nil => simp [Osum]
  | cons p l ih =>
    rw [Osum, Pi.add_apply, Finsupp.add_apply, ih, tallyAt_apply, List.count_cons, Nat.add_mul]
    by_cases h : p = q
    · subst h; simp
    · rw [if_neg (fun h' => h (kcell_injective h'.1).symm)]
      simp [h]

theorem Osum_pos {l : List (Dev nD × Fin 15)} {g : GSem nD τ sig} {u : Unit} (h : 0 < Osum l g u) : ∃ p ∈ l, g = kcell p := by
  induction l with
  | nil => exact absurd h (Nat.lt_irrefl 0)
  | cons p l ih =>
    rw [Osum, Pi.add_apply, Finsupp.add_apply, tallyAt_apply] at h
    by_cases hg : g = kcell p
    · exact ⟨p, List.mem_cons_self, hg⟩
    · rw [if_neg (fun h' => hg h'.1), Nat.add_zero] at h
      obtain ⟨q, hq, e⟩ := ih h
      exact ⟨q, List.mem_cons_of_mem _ hq, e⟩

theorem mayWait (c : Dev nD) (s : SemLoc sig) (l : List (Dev nD × Fin 15)) (n : ℕ) (hs : ∀ u, lv ((c : Thread nD τ), s) u = n)
    (hl : ∀ p ∈ l, n < klev p.2) : (levAts L lv : sProp 𝕄) ⊢ MayWait (c : Thread nD τ) s () (Osum l) :=
  MayOwe.of_cut (L := L) (lev := lv) n (fun p hp => by rw [Finset.mem_singleton.mp hp, L_tc]; exact Finset.mem_singleton_self _)
    (fun g u hg => by obtain ⟨p, -, rfl⟩ := Osum_pos hg; exact Finset.mem_singleton_self _)
    (fun p hp => by rw [Finset.mem_singleton.mp hp]; exact le_of_eq (hs _))
    (fun g u hg => by obtain ⟨p, hp, rfl⟩ := Osum_pos hg; rw [lv_kcell]; exact hl p hp)

theorem mayWait_cell (c : Dev nD) (k : Fin 15) (l : List (Dev nD × Fin 15)) (hl : ∀ p ∈ l, klev k < klev p.2) :
    (levAts L lv : sProp 𝕄) ⊢ MayWait (c : Thread nD τ) (csem k) () (Osum l) :=
  mayWait c (csem k) l (klev k) (fun u => lv_kcell (c, k) u) hl

theorem debts_pos : ∀ c, ∀ p ∈ debts c, 0 < klev p.2 := by decide

theorem mayWait_stage (c : Dev nD) (s : SemLoc sig) (hs : kindOf s = none) (O : CellTallies nD τ sig Unit) (hO : O = O₀ c ∨ O = 0) :
    (levAts L lv : sProp 𝕄) ⊢ MayWait (c : Thread nD τ) s () O := by
  have h0 : ∀ u, lv ((c : Thread nD τ), s) u = 0 := fun u => by unfold lv; rw [hs]; rfl
  rcases hO with rfl | rfl
  · exact mayWait c s (debts c) 0 h0 (debts_pos c)
  · exact mayWait c s [] 0 h0 (fun _ h => absurd h List.not_mem_nil)

end Cert.Exchange

end
-- ==== Proof.Steps.lean ====
/-
# One step of the body at a time

The rules of the effects the body has, read at this protocol: a signal, a wait, a remote copy, a load and a store of a
slot. The invariants of all cells stand in one persistent context, `ctx`; what a device still owes is a list, paid from
its head.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Re-indexed views -/

section Views
variable (c : Dev nD) (M : Memref sig .tc .vmem S1x64x512 .f32) (q : PosShare TreeShare)

theorem sq_set : (sq M).view.set = M.view.set := View.set_reshape (v := M.view) squeezes_S1x64x512_S64x512.numel_eq

omit [FloatOps F] in
theorem sq_read (f : M.view.ty.Contents (Elt F)) :
    ((sq M).view.read (Elt F) f : Vec F S64x512 .f32) = shapeCast S64x512 (M.view.read (Elt F) f : Vec F S1x64x512 .f32) shapeCasts_S1x64x512_S64x512 := by
  funext y
  show (sq M).view.read (Elt F) f y = M.view.read (Elt F) f (Shape.reshapeEquiv _ y)
  rw [View.read_apply, View.read_apply]
  rfl

omit [FloatOps F] in
theorem cast_back (v : Vec F S1x64x512 .f32) :
    shapeCast S1x64x512 (shapeCast S64x512 v shapeCasts_S1x64x512_S64x512) shapeCasts_S64x512_S1x64x512 = v := by
  funext y
  show v (Shape.reshapeEquiv _ (Shape.reshapeEquiv _ y)) = v y
  rw [Shape.reshapeEquiv_reshapeEquiv, Shape.reshapeEquiv_self]

omit [FloatOps F] in
theorem cast_back' (v : Vec F S64x512 .f32) :
    shapeCast S64x512 (shapeCast S1x64x512 v shapeCasts_S64x512_S1x64x512) shapeCasts_S1x64x512_S64x512 = v := by
  funext y
  show v (Shape.reshapeEquiv _ (Shape.reshapeEquiv _ y)) = v y
  rw [Shape.reshapeEquiv_reshapeEquiv, Shape.reshapeEquiv_self]

theorem owns_sq (X : Vec F S1x64x512 .f32) :
    (owns (c : Thread nD τ) M q X : sProp 𝕄) ⊢ owns (c : Thread nD τ) (sq M) q (shapeCast S64x512 X shapeCasts_S1x64x512_S64x512) := by
  unfold owns
  iintro ⟨%f, %hf, H⟩
  iexists f
  isplitr
  · ipureintro; rw [← hf]; exact sq_read M f
  · rw [sq_set]; iexact H

theorem owns_unsq (X : Vec F S64x512 .f32) :
    (owns (c : Thread nD τ) (sq M) q X : sProp 𝕄) ⊢ owns (c : Thread nD τ) M q (shapeCast S1x64x512 X shapeCasts_S64x512_S1x64x512) := by
  unfold owns
  iintro ⟨%f, %hf, H⟩
  iexists f
  isplitr
  · ipureintro; rw [← hf, sq_read]; exact (cast_back _).symm
  · rw [sq_set]; iexact H

theorem any_sq : (ownsAny c M q : sProp 𝕄) ⊢ ownsAny c (sq M) q := by
  unfold ownsAny ownsSat
  iintro ⟨%f, -, H⟩
  iexists f
  isplitr
  · ipureintro; trivial
  · rw [sq_set]; iexact H

theorem any_unsq : (ownsAny c (sq M) q : sProp 𝕄) ⊢ ownsAny c M q := by
  unfold ownsAny ownsSat
  iintro ⟨%f, -, H⟩
  iexists f
  isplitr
  · ipureintro; trivial
  · rw [sq_set]; iexact H

end Views

/-! ## The context -/

variable (K : Dev nD × Fin 15 → ℕ)

/-- Every cell's invariant, every cell's first round reached, and the levels. -/
def ctx : sProp 𝕄 :=
  iprop(bigSep Finset.univ (fun ck : Dev nD × Fin 15 => cellInv ER (rd m ρ) (K ck) (kcell ck))
    ∗ bigSep Finset.univ (fun ck : Dev nD × Fin 15 => reached ER (kcell ck) 0) ∗ levAts L lv)

instance ctx_persistent : Persistent (ctx (F := F) m ρ K) := by unfold ctx; infer_instance

theorem one_of (Φ : Dev nD × Fin 15 → sProp 𝕄) (ck : Dev nD × Fin 15) : bigSep Finset.univ Φ ⊢ Φ ck := bigSep_elim (Finset.mem_univ ck)

theorem inv_at (ck : Dev nD × Fin 15) : ctx (F := F) m ρ K ⊢ cellInv ER (rd m ρ) (K ck) (kcell ck) := by
  unfold ctx; iintro ⟨H, -, -⟩
  iapply (one_of (fun ck : Dev nD × Fin 15 => cellInv ER (rd m ρ) (K ck) (kcell ck)) ck); iexact H
theorem reached_at (ck : Dev nD × Fin 15) : ctx (F := F) m ρ K ⊢ reached ER (kcell ck) 0 := by
  unfold ctx; iintro ⟨-, H, -⟩
  iapply (one_of (fun ck : Dev nD × Fin 15 => reached ER (kcell ck) 0) ck); iexact H
theorem levs_at : ctx (F := F) m ρ K ⊢ levAts L lv := by
  unfold ctx; iintro ⟨-, -, H⟩; iexact H

/-- What device `c` still owes, whatever it has waited for. -/
def owing (c : Dev nD) (l : List (Dev nD × Fin 15)) : sProp 𝕄 := iprop(∃ W : Waits sig Unit, owes (c : Thread nD τ) (Osum l) W)

section Steps
variable {α : Type} (c : Dev nD) {kk : PUnit → Prog (TpuEff nD τ sig (Elt F) Λ₀ .tc) α}

/-- A barrier signal: one unit to `n`'s barrier cell, with its payload. -/
theorem signal_step {Q : α → sProp 𝕄} (n t : Dev nD) (hn : n = t) (d : Bool) (l : List (Dev nD × Fin 15)) :
    iprop(ctx m ρ K ∗ owing c ((t, 0) :: l) ∗ dutyTok ER (kcell (t, 0)) 0 d ∗ pay m ρ t 0 d)
      ⊢ iprop((owing c l -∗ WP c (kk ⟨⟩) Q) -∗ WP c (.op (.semSignal (n : Thread nD τ) barS 1) kk) Q) := by
  subst hn
  unfold owing
  iintro ⟨#HC, ⟨%W, HO⟩, Ht, HP⟩ Hk
  iapply (Rounds.wp_signal 𝒱₀ ER (rd m ρ) (c : Thread nD τ) none (dst := (n : Thread nD τ)) (κ := K (n, 0)) (d := d)
      (by rw [show (((n : Thread nD τ), SemLoc.reg barS) : GSem nD τ sig) = kcell (n, 0) from rfl, duties_eq]; exact Finset.mem_univ _)
      (amount_eq m ρ n 0 d) () (Osum l) rfl) $$ [HO Ht HP]
  · isplitr; · iapply (inv_at m ρ K (n, 0)); iexact HC
    isplitl [HO]; · iexact HO
    isplitl [Ht]; · iexact Ht
    isplitl [HP]
    · iapply (Entails.of_eq (payload_eq m ρ n 0 d).symm); iexact HP
    · iapply (reached_at m ρ K (n, 0)); iexact HC
  iintro HO
  iapply Hk
  iexists W; iexact HO

/-- A wait for a cell's whole round. -/
theorem wait_step {Q : α → sProp 𝕄} (k : Fin 15) (l : List (Dev nD × Fin 15)) (hl : ∀ p ∈ l, klev k < klev p.2)
    {w : TpuEff nD τ sig (Elt F) Λ₀ .tc PUnit} (n : ℕ) (hn : n = tot k)
    (hw : ∀ K' : PUnit → sProp 𝕄, wpE (defs₀ (F := F)) 𝒱₀ (c : Thread nD τ) none Set.univ w K' = waitSpec (c : Thread nD τ) Set.univ (csem k) n K') :
    iprop(ctx m ρ K ∗ cred (tallyAt (kcell (c, k)) () (tot k)) ∗ owing c l ∗ atPos ER (kcell (c, k)) 0 ∅ 0)
      ⊢ iprop(((owing c l ∗ atPos ER (kcell (c, k)) 1 ∅ 0 ∗ rest m ρ c k) -∗ WP c (kk ⟨⟩) Q) -∗ WP c (.op w kk) Q) := by
  subst hn
  unfold owing
  iintro ⟨#HC, Hcr, ⟨%W, HO⟩, Hat⟩ Hk
  iapply (Rounds.wp_wait_rest_token 𝒱₀ ER (rd m ρ) (c : Thread nD τ) none (κ := K (c, k)) hw (Set.mem_univ _) () (O := Osum l) (W := W) (R := 0) (m := 0) (T := ∅)
      (by rw [Nat.zero_add]; exact (expect_eq m ρ c k).symm)) $$ [Hcr HO Hat]
  · isplitr; · iapply (inv_at m ρ K (c, k)); iexact HC
    isplitl [Hcr]; · iexact Hcr
    isplitl [HO]; · iexact HO
    isplitr
    · iapply (mayWait_cell c k l hl); iapply (levs_at m ρ K); iexact HC
    iexact Hat
  iintro ⟨HO, Hat, -, Hp⟩
  iapply Hk
  isplitl [HO]
  · iexists _; iexact HO
  isplitl [Hat]
  · iexact Hat
  iapply (Entails.of_eq (rest_eq m ρ c k)); iexact Hp

theorem wait_dma {Q : α → sProp 𝕄} (k : Fin 15) (l : List (Dev nD × Fin 15)) (hl : ∀ p ∈ l, klev k < klev p.2)
    {sp : Space} {s s' : Shape} {e e' : EltTy} {sem : DmaSem sig} {src : Memref sig .tc sp s' e'} {dst : Memref sig .tc .vmem s e}
    (hS : SemLoc.dma sem = csem k) (hN : dst.view.dmaCredit = tot k) {hsrc : src.view.WordExact} {hdst : dst.view.WordExact} :
    iprop(ctx m ρ K ∗ cred (tallyAt (kcell (c, k)) () (tot k)) ∗ owing c l ∗ atPos ER (kcell (c, k)) 0 ∅ 0)
      ⊢ iprop(((owing c l ∗ atPos ER (kcell (c, k)) 1 ∅ 0 ∗ rest m ρ c k) -∗ WP c (kk ⟨⟩) Q)
        -∗ WP c (.op (.waitDma2 sem src dst hsrc hdst) kk) Q) :=
  wait_step m ρ K c k l hl dst.view.dmaCredit hN (by rw [← hS]; exact wpE_waitDma2_eq 𝒱₀ (c : Thread nD τ) none Set.univ)

/-- A remote copy to `n`: the source makes the send cell's payload, the landing at the source's contents the receive cell's. -/
theorem send_step {Q : α → sProp 𝕄} {sp : Space} {s : Shape} {e : EltTy} (n t : Dev nD) (hn : n = t) (kS kR : Fin 15) {src dst : Memref sig .tc .vmem s e}
    {sS sR : SemLoc sig} (hS : sS = csem kS) (hR : sR = csem kR)
    {hsc : (dst : Memref sig (Dev.tc n : Thread nD τ).2.kind .vmem s e).view.ref.isScScratch = false}
    {hsrc : src.view.WordExact} {hdst : (dst : Memref sig (Dev.tc n : Thread nD τ).2.kind .vmem s e).view.WordExact}
    {hsem : DmaTarget.Typed .vmem sR (.remote (Dev.tc n : Thread nD τ) dst sS hsc)}
    (q : PosShare TreeShare) (Y : s.Idx → Elt F e) (l : List (Dev nD × Fin 15))
    (h0 : kS ≠ 0) (hN : dst.view.amount sR = amt kR) (hkk : amt kS = amt kR)
    (hpS : (owns (c : Thread nD τ) src q Y : sProp 𝕄) ⊢ pay m ρ c kS false) (hpR : (owns (t : Thread nD τ) dst fullShare Y : sProp 𝕄) ⊢ pay m ρ t kR false) :
    iprop(ctx m ρ K ∗ owns (c : Thread nD τ) src q Y ∗ ownsAny t dst fullShare ∗ owing c ((t, kR) :: l)
        ∗ dutyTok ER (kcell (c, kS)) 0 false ∗ dutyTok ER (kcell (t, kR)) 0 false)
      ⊢ iprop(((cred (tallyAt (kcell (c, kS)) () (tot kS)) ∗ owing c l) -∗ WP c (kk ⟨⟩) Q)
          -∗ WP c (.op (.enqueueDma src (.remote (Dev.tc n : Thread nD τ) dst sS hsc) sR hsrc hdst hsem) kk) Q) := by
  subst hn hS hR
  unfold owing owns ownsAny ownsSat
  iintro ⟨#HC, ⟨%fs, %hfs, Hs⟩, ⟨%fd, -, Hd⟩, ⟨%W, HO⟩, HtS, HtR⟩ Hk
  iapply (Rounds.wp_send_pointsTo 𝒱₀ ER (rd m ρ) (c : Thread nD τ) none (c' := (n : Thread nD τ)) (κ₁ := K (c, kS)) (κ₂ := K (n, kR)) (r₁ := 0) (r₂ := 0)
      (d₁ := false) (d₂ := false) (q := q) (fs := fs) (fd := fd) (mem_duties_false m ρ c kS) (mem_duties_false m ρ n kR) () () (amt kR) hN
      ((amount_eq m ρ c kS false).trans hkk) (amount_eq m ρ n kR false) (Osum l) rfl (W := W)
      (by
        rw [payload_eq m ρ c kS false]
        refine BIBase.Entails.trans ?_ hpS
        rw [← hfs]; exact owns_intro (c : Thread nD τ) src q fs)
      (by
        rw [payload_eq m ρ n kR false]
        refine BIBase.Entails.trans ?_ hpR
        refine (owns_intro (n : Thread nD τ) dst fullShare _).trans (Entails.of_eq ?_)
        rw [View.read_write_univ, hfs])) $$ [Hs Hd HO HtS HtR]
  · isplitr; · iapply (inv_at m ρ K (c, kS)); iexact HC
    isplitr; · iapply (inv_at m ρ K (n, kR)); iexact HC
    isplitl [Hs]; · iexact Hs
    isplitl [Hd]; · iexact Hd
    isplitl [HO]; · iexact HO
    isplitl [HtS]; · iexact HtS
    isplitr; · iapply (reached_at m ρ K (c, kS)); iexact HC
    isplitl [HtR]; · iexact HtR
    iapply (reached_at m ρ K (n, kR)); iexact HC
  iintro ⟨Hcr, HO⟩
  iapply Hk
  isplitl [Hcr]
  · rw [show tot kS = amt kR from (if_neg h0).trans hkk]; iexact Hcr
  iexists W; iexact HO

/-- A load of a slot that is owned at contents `X` gives `X`. -/
theorem load_step {Q : α → sProp 𝕄} {s : Shape} {e : EltTy} {M : Memref sig .tc .vmem s e} {r : Rect s} (h1 : ∀ a, r.stride a = 1) {hl : M.view.LoadsAt r.toLoadRect}
    {k : (r.shape.Idx → Elt F e) → Prog (TpuEff nD τ sig (Elt F) Λ₀ .tc) α} (q : PosShare TreeShare) (X : r.shape.Idx → Elt F e) :
    (owns (c : Thread nD τ) (M.slice r h1) q X : sProp 𝕄)
      ⊢ iprop((owns (c : Thread nD τ) (M.slice r h1) q X -∗ WP c (k X) Q) -∗ WP c (.op (.load M r.toLoadRect hl) k) Q) := by
  unfold owns
  iintro ⟨%f, %hf, H⟩ Hk
  iapply (wp_load_rect 𝒱₀ (c : Thread nD τ) none Set.univ (m := M) (r := r) (S := (M.slice r h1).view.set) (f := f) (by exact subset_rfl)) $$ H
  iintro H
  subst hf
  iapply Hk
  iexists f
  isplitr
  · ipureintro; rfl
  · iexact H

/-- A load of a slot at contents nothing is known of. -/
theorem load_any {Q : α → sProp 𝕄} {s : Shape} {e : EltTy} {M : Memref sig .tc .vmem s e} {r : Rect s} (h1 : ∀ a, r.stride a = 1) {hl : M.view.LoadsAt r.toLoadRect}
    {k : (r.shape.Idx → Elt F e) → Prog (TpuEff nD τ sig (Elt F) Λ₀ .tc) α} (q : PosShare TreeShare) :
    (ownsAny c (M.slice r h1) q : sProp 𝕄)
      ⊢ iprop((∀ X, ownsAny c (M.slice r h1) q -∗ WP c (k X) Q) -∗ WP c (.op (.load M r.toLoadRect hl) k) Q) := by
  iintro H Hk
  ihave H2 := (ownsSat_true (c : Thread nD τ) (M.slice r h1) q).1 $$ H
  icases H2 with ⟨%X, H⟩
  iapply (load_step c h1 (hl := hl) q X) $$ H
  iintro H
  ispecialize Hk $$ %X
  iapply Hk
  iapply (ownsSat_true (c : Thread nD τ) (M.slice r h1) q).2
  iexists X; iexact H

/-- A store to a slot leaves it at what was stored. -/
theorem store_step {Q : α → sProp 𝕄} {s : Shape} {e : EltTy} {M : Memref sig .tc .vmem s e} {r : Rect s} (h1 : ∀ a, r.stride a = 1) {w : r.shape.Idx → Elt F e}
    {hx : (M.access r).Stores Finset.univ} {hm : (Finset.univ : Finset r.shape.Idx) = Finset.univ ∨ ∀ a, r.stride a = 1} :
    (ownsAny c (M.slice r h1) fullShare : sProp 𝕄)
      ⊢ iprop((owns (c : Thread nD τ) (M.slice r h1) fullShare w -∗ WP c (kk ⟨⟩) Q) -∗ WP c (.op (.store M r w Finset.univ hx hm) kk) Q) := by
  unfold ownsAny ownsSat
  iintro ⟨%f, -, H⟩ Hk
  iapply (wp_store 𝒱₀ (c : Thread nD τ) none Set.univ (m := M) (r := r) (Mk := Finset.univ) (S := (M.slice r h1).view.set) (f := f) (by exact subset_rfl)) $$ H
  iintro H
  iapply Hk
  unfold owns
  iexists _
  isplitr
  rotate_left
  · iexact H
  · ipureintro; exact View.read_write_univ _ _

end Steps

end Cert.Exchange

end
-- ==== Proof.Parts.lean ====
/-
# The body's parts

Each printed part of the body run once, at a symbolic device: what it needs, what it leaves, what it returns.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores of whole buffers -/

theorem hz2 : (![0, 0] : Fin 2 → Nat) = fun _ => 0 := funext fun a => by fin_cases a <;> rfl

abbrev rX : Rect S256x512 := Rect.unit (s := S256x512) ![0, 0] S256x512.size inb_S256x512_S256x512_0_0
abbrev rR : Rect S512x2 := Rect.unit (s := S512x2) ![0, 0] S512x2.size inb_S512x2_S512x2_0_0
abbrev rS : Rect S128x512 := Rect.unit (s := S128x512) ![0, 0] S128x512.size inb_S128x512_S128x512_0_0

section Whole
variable {α : Type} (c : Dev nD)

theorem ret_step {a : α} {Q : α → sProp 𝕄} : Q a ⊢ WP (F := F) c (Prog.ret a) Q := by
  unfold WP; rw [wp_ret]; iintro H; imodintro; iexact H

theorem load_x {Q : α → sProp 𝕄} {hl : xM.view.LoadsAt rX.toLoadRect} {k : Vec F S256x512 .f32 → Prog (TpuEff nD τ sig (Elt F) Λ₀ .tc) α}
    (X : Vec F S256x512 .f32) :
    (owns (c : Thread nD τ) xM fullShare X : sProp 𝕄)
      ⊢ iprop((owns (c : Thread nD τ) xM fullShare X -∗ WP c (k X) Q) -∗ WP c (.op (.load xM rX.toLoadRect hl) k) Q) := by
  unfold owns
  iintro ⟨%f, %hf, H⟩ Hk
  iapply (wp_load 𝒱₀ (c : Thread nD τ) none Set.univ (m := xM) (S := xM.view.set) (by rw [View.set_whole]; exact Finset.subset_univ _)) $$ H
  iintro H
  have e : xM.view.readAt (Elt F) rX.toLoadRect f = X := by
    rw [← hf]; exact Memref.readAt_unit_zero (Elt F) cc0_stg0_0 hz2 _ f
  rw [e]
  iapply Hk
  iexists f
  isplitr
  · ipureintro; exact hf
  · iexact H

theorem load_r {Q : α → sProp 𝕄} {hl : rM.view.LoadsAt rR.toLoadRect} {k : Vec F S512x2 .f32 → Prog (TpuEff nD τ sig (Elt F) Λ₀ .tc) α}
    (X : Vec F S512x2 .f32) :
    (owns (c : Thread nD τ) rM fullShare X : sProp 𝕄)
      ⊢ iprop((owns (c : Thread nD τ) rM fullShare X -∗ WP c (k X) Q) -∗ WP c (.op (.load rM rR.toLoadRect hl) k) Q) := by
  unfold owns
  iintro ⟨%f, %hf, H⟩ Hk
  iapply (wp_load 𝒱₀ (c : Thread nD τ) none Set.univ (m := rM) (S := rM.view.set) (by rw [View.set_whole]; exact Finset.subset_univ _)) $$ H
  iintro H
  have e : rM.view.readAt (Elt F) rR.toLoadRect f = X := by
    rw [← hf]; exact Memref.readAt_unit_zero (Elt F) cc0_stg1_0 hz2 _ f
  rw [e]
  iapply Hk
  iexists f
  isplitr
  · ipureintro; exact hf
  · iexact H

theorem load_ro {Q : α → sProp 𝕄} {hl : roM.view.LoadsAt rR.toLoadRect} {k : Vec F S512x2 .f32 → Prog (TpuEff nD τ sig (Elt F) Λ₀ .tc) α}
    (X : Vec F S512x2 .f32) :
    (owns (c : Thread nD τ) roM fullShare X : sProp 𝕄)
      ⊢ iprop((owns (c : Thread nD τ) roM fullShare X -∗ WP c (k X) Q) -∗ WP c (.op (.load roM rR.toLoadRect hl) k) Q) := by
  unfold owns
  iintro ⟨%f, %hf, H⟩ Hk
  iapply (wp_load 𝒱₀ (c : Thread nD τ) none Set.univ (m := roM) (S := roM.view.set) (by rw [View.set_whole]; exact Finset.subset_univ _)) $$ H
  iintro H
  have e : roM.view.readAt (Elt F) rR.toLoadRect f = X := by
    rw [← hf]; exact Memref.readAt_unit_zero (Elt F) cc0_scratch2 hz2 _ f
  rw [e]
  iapply Hk
  iexists f
  isplitr
  · ipureintro; exact hf
  · iexact H

/-- A load of one expert's matrix, of either kind. -/
theorem load_w1 {Q : α → sProp 𝕄} {r : Rect S2x512x1024} {hl : w1M.view.LoadsAt r.toLoadRect} {k : (r.shape.Idx → Elt F .f32) → Prog (TpuEff nD τ sig (Elt F) Λ₀ .tc) α} :
    (owns (c : Thread nD τ) w1M fullShare (w1st m ρ c) : sProp 𝕄)
      ⊢ iprop((owns (c : Thread nD τ) w1M fullShare (w1st m ρ c) -∗ WP c (k (w1M.view.readAt (Elt F) r.toLoadRect (w1st m ρ c))) Q)
        -∗ WP c (.op (.load w1M r.toLoadRect hl) k) Q) := by
  unfold owns
  iintro ⟨%f, %hf, H⟩ Hk
  iapply (wp_load 𝒱₀ (c : Thread nD τ) none Set.univ (m := w1M) (S := w1M.view.set) (by rw [View.set_whole]; exact Finset.subset_univ _)) $$ H
  iintro H
  have e : f = w1st m ρ c := hf
  subst e
  iapply Hk
  iexists _
  isplitr
  · ipureintro; exact hf
  · iexact H

theorem load_w2 {Q : α → sProp 𝕄} {r : Rect S2x1024x512} {hl : w2M.view.LoadsAt r.toLoadRect} {k : (r.shape.Idx → Elt F .f32) → Prog (TpuEff nD τ sig (Elt F) Λ₀ .tc) α} :
    (owns (c : Thread nD τ) w2M fullShare (w2st m ρ c) : sProp 𝕄)
      ⊢ iprop((owns (c : Thread nD τ) w2M fullShare (w2st m ρ c) -∗ WP c (k (w2M.view.readAt (Elt F) r.toLoadRect (w2st m ρ c))) Q)
        -∗ WP c (.op (.load w2M r.toLoadRect hl) k) Q) := by
  unfold owns
  iintro ⟨%f, %hf, H⟩ Hk
  iapply (wp_load 𝒱₀ (c : Thread nD τ) none Set.univ (m := w2M) (S := w2M.view.set) (by rw [View.set_whole]; exact Finset.subset_univ _)) $$ H
  iintro H
  have e : f = w2st m ρ c := hf
  subst e
  iapply Hk
  iexists _
  isplitr
  · ipureintro; exact hf
  · iexact H

theorem load_wA0 {Q : α → sProp 𝕄} {hl : w1M.view.LoadsAt rA0.toLoadRect} {k : Vec F S1x512x1024 .f32 → Prog (TpuEff nD τ sig (Elt F) Λ₀ .tc) α} :
    (owns (c : Thread nD τ) w1M fullShare (w1st m ρ c) : sProp 𝕄)
      ⊢ iprop((owns (c : Thread nD τ) w1M fullShare (w1st m ρ c) -∗ WP c (k (wA0 m ρ c)) Q)
        -∗ WP c (.op (.load w1M rA0.toLoadRect hl) k) Q) := load_w1 m ρ c

theorem load_wA1 {Q : α → sProp 𝕄} {hl : w1M.view.LoadsAt rA1.toLoadRect} {k : Vec F S1x512x1024 .f32 → Prog (TpuEff nD τ sig (Elt F) Λ₀ .tc) α} :
    (owns (c : Thread nD τ) w1M fullShare (w1st m ρ c) : sProp 𝕄)
      ⊢ iprop((owns (c : Thread nD τ) w1M fullShare (w1st m ρ c) -∗ WP c (k (wA1 m ρ c)) Q)
        -∗ WP c (.op (.load w1M rA1.toLoadRect hl) k) Q) := load_w1 m ρ c

theorem load_wB0 {Q : α → sProp 𝕄} {hl : w2M.view.LoadsAt rB0.toLoadRect} {k : Vec F S1x1024x512 .f32 → Prog (TpuEff nD τ sig (Elt F) Λ₀ .tc) α} :
    (owns (c : Thread nD τ) w2M fullShare (w2st m ρ c) : sProp 𝕄)
      ⊢ iprop((owns (c : Thread nD τ) w2M fullShare (w2st m ρ c) -∗ WP c (k (wB0 m ρ c)) Q)
        -∗ WP c (.op (.load w2M rB0.toLoadRect hl) k) Q) := load_w2 m ρ c

theorem load_wB1 {Q : α → sProp 𝕄} {hl : w2M.view.LoadsAt rB1.toLoadRect} {k : Vec F S1x1024x512 .f32 → Prog (TpuEff nD τ sig (Elt F) Λ₀ .tc) α} :
    (owns (c : Thread nD τ) w2M fullShare (w2st m ρ c) : sProp 𝕄)
      ⊢ iprop((owns (c : Thread nD τ) w2M fullShare (w2st m ρ c) -∗ WP c (k (wB1 m ρ c)) Q)
        -∗ WP c (.op (.load w2M rB1.toLoadRect hl) k) Q) := load_w2 m ρ c

/-- The load of the send buffer before it is stored to; the store. -/
theorem load_xs {Q : α → sProp 𝕄} {hl : xsM.view.LoadsAt rS.toLoadRect} {k : Vec F S128x512 .f32 → Prog (TpuEff nD τ sig (Elt F) Λ₀ .tc) α} :
    (ownsAny c xsM fullShare : sProp 𝕄)
      ⊢ iprop((∀ v, ownsAny c xsM fullShare -∗ WP c (k v) Q) -∗ WP c (.op (.load xsM rS.toLoadRect hl) k) Q) := by
  unfold ownsAny ownsSat
  iintro ⟨%f, -, H⟩ Hk
  iapply (wp_load 𝒱₀ (c : Thread nD τ) none Set.univ (m := xsM) (S := xsM.view.set) (by rw [View.set_whole]; exact Finset.subset_univ _)) $$ H
  iintro H
  iapply Hk
  iexists f
  isplitr
  · ipureintro; trivial
  · iexact H

theorem store_xs {Q : α → sProp 𝕄} {w : Vec F S128x512 .f32} {hx : (xsM.access rS).Stores Finset.univ} {hm} {k : PUnit → Prog (TpuEff nD τ sig (Elt F) Λ₀ .tc) α} :
    (ownsAny c xsM fullShare : sProp 𝕄)
      ⊢ iprop((owns (c : Thread nD τ) xsM fullShare w -∗ WP c (k ⟨⟩) Q) -∗ WP c (.op (.store xsM rS w Finset.univ hx hm) k) Q) := by
  unfold ownsAny ownsSat
  iintro ⟨%f, -, H⟩ Hk
  iapply (wp_store 𝒱₀ (c : Thread nD τ) none Set.univ (m := xsM) (r := rS) (Mk := Finset.univ) (S := xsM.view.set) (by rw [View.set_whole]; exact Finset.subset_univ _)) $$ H
  iintro H
  iapply Hk
  unfold owns
  iexists _
  isplitr
  rotate_left
  · iexact H
  · ipureintro; exact congrArg (xsM.view.read (Elt F)) (Memref.write_access_unit_zero_univ (Elt F) cc0_scratch0 hz2 _ f w)

/-- The load of a rectangle of the result before it is stored to; the store. -/
theorem load_out {Q : α → sProp 𝕄} {r : Rect S256x512} {hl : oM.view.LoadsAt r.toLoadRect} {k : (r.shape.Idx → Elt F .f32) → Prog (TpuEff nD τ sig (Elt F) Λ₀ .tc) α}
    (X : Vec F S256x512 .f32) :
    (owns (c : Thread nD τ) oM fullShare X : sProp 𝕄)
      ⊢ iprop((∀ v, owns (c : Thread nD τ) oM fullShare X -∗ WP c (k v) Q) -∗ WP c (.op (.load oM r.toLoadRect hl) k) Q) := by
  unfold owns
  iintro ⟨%f, %hf, H⟩ Hk
  iapply (wp_load 𝒱₀ (c : Thread nD τ) none Set.univ (m := oM) (S := oM.view.set) (by rw [View.set_whole]; exact Finset.subset_univ _)) $$ H
  iintro H
  iapply Hk
  iexists f
  isplitr
  · ipureintro; exact hf
  · iexact H

/-- The result's buffer after a store of 64 rows. -/
def wr (r : Rect S256x512) (X : Vec F S256x512 .f32) (w : r.shape.Idx → Elt F .f32) : Vec F S256x512 .f32 :=
  (oM.access r).write (Elt F) X w Finset.univ

theorem store_out {Q : α → sProp 𝕄} {r : Rect S256x512} {w : r.shape.Idx → Elt F .f32} {hx : (oM.access r).Stores Finset.univ} {hm}
    {k : PUnit → Prog (TpuEff nD τ sig (Elt F) Λ₀ .tc) α} (X : Vec F S256x512 .f32) :
    (owns (c : Thread nD τ) oM fullShare X : sProp 𝕄)
      ⊢ iprop((owns (c : Thread nD τ) oM fullShare (wr r X w) -∗ WP c (k ⟨⟩) Q) -∗ WP c (.op (.store oM r w Finset.univ hx hm) k) Q) := by
  unfold owns
  iintro ⟨%f, %hf, H⟩ Hk
  iapply (wp_store 𝒱₀ (c : Thread nD τ) none Set.univ (m := oM) (r := r) (Mk := Finset.univ) (S := oM.view.set) (by rw [View.set_whole]; exact Finset.subset_univ _)) $$ H
  iintro H
  iapply Hk
  have e : f = X := hf
  subst e
  iexists _
  isplitr
  rotate_left
  · iexact H
  · ipureintro; rfl

end Whole

/-! ## What a copy's two ends make of it -/

section Ends
variable (c : Dev nD)

theorem land8 : (owns (yp c : Thread nD τ) (sq (sl0 xoM)) fullShare (hs0.view.read (Elt F) (xs m ρ c)) : sProp 𝕄) ⊢ pay m ρ (yp c) 8 false :=
  (owns_unsq (yp c) (sl0 xoM) fullShare _).trans (Entails.of_eq (by unfold pay xo0; rw [yp_yp]))
theorem land9 : (owns (yp c : Thread nD τ) (sq (sl1 xoM)) fullShare (hs1.view.read (Elt F) (xs m ρ c)) : sProp 𝕄) ⊢ pay m ρ (yp c) 9 false :=
  (owns_unsq (yp c) (sl1 xoM) fullShare _).trans (Entails.of_eq (by unfold pay xo1; rw [yp_yp]))
theorem land10 : (owns (yp c : Thread nD τ) roM fullShare (rst m ρ c) : sProp 𝕄) ⊢ pay m ρ (yp c) 10 false :=
  Entails.of_eq (by unfold pay ro; rw [yp_yp])
theorem land11 : (owns (yp c : Thread nD τ) (sq (sl0 cdM)) fullShare (shapeCast S64x512 (ps0 m ρ c) shapeCasts_S1x64x512_S64x512) : sProp 𝕄) ⊢ pay m ρ (yp c) 11 false :=
  (owns_unsq (yp c) (sl0 cdM) fullShare _).trans (Entails.of_eq (by unfold pay cd0; rw [yp_yp, cast_back]))
theorem land12 : (owns (yp c : Thread nD τ) (sq (sl1 cdM)) fullShare (shapeCast S64x512 (ps1 m ρ c) shapeCasts_S1x64x512_S64x512) : sProp 𝕄) ⊢ pay m ρ (yp c) 12 false :=
  (owns_unsq (yp c) (sl1 cdM) fullShare _).trans (Entails.of_eq (by unfold pay cd1; rw [yp_yp, cast_back]))
theorem land13 : (owns (xn c : Thread nD τ) (sq (sl0 cfM)) fullShare (shapeCast S64x512 (cd0 m ρ c) shapeCasts_S1x64x512_S64x512) : sProp 𝕄) ⊢ pay m ρ (xn c) 13 false :=
  (owns_unsq (xn c) (sl0 cfM) fullShare _).trans (Entails.of_eq (by unfold pay cf0; rw [xn_xn, cast_back]))
theorem land14 : (owns (xn c : Thread nD τ) (sq (sl1 cfM)) fullShare (shapeCast S64x512 (cd1 m ρ c) shapeCasts_S1x64x512_S64x512) : sProp 𝕄) ⊢ pay m ρ (xn c) 14 false :=
  (owns_unsq (xn c) (sl1 cfM) fullShare _).trans (Entails.of_eq (by unfold pay cf1; rw [xn_xn, cast_back]))

theorem any_of {s : Shape} {e : EltTy} (M : Memref sig .tc .vmem s e) (q : PosShare TreeShare) (Y : s.Idx → Elt F e) :
    (owns (c : Thread nD τ) M q Y : sProp 𝕄) ⊢ ownsAny c M q := ownsSat_intro (c : Thread nD τ) M q trivial
theorem any_of_sq (M : Memref sig .tc .vmem S1x64x512 .f32) (q : PosShare TreeShare) (Y : Vec F S64x512 .f32) :
    (owns (c : Thread nD τ) (sq M) q Y : sProp 𝕄) ⊢ ownsAny c M q := (any_of c (sq M) q Y).trans (any_unsq c M q)

end Ends

/-! ## The parts at this call's arguments -/

variable (K : Dev nD × Fin 15 → ℕ)

section Parts
variable (c : Dev nD)

/-- Before and after the one round of a cell; the token of its duty; the credit its owner waits with. -/
abbrev at0 (k : Fin 15) : sProp 𝕄 := atPos ER (kcell (c, k)) 0 ∅ 0
abbrev at1 (k : Fin 15) : sProp 𝕄 := atPos ER (kcell (c, k)) 1 ∅ 0
abbrev tok (k : Fin 15) : sProp 𝕄 := dutyTok ER (kcell (c, k)) 0 false
abbrev crd (k : Fin 15) : sProp 𝕄 := cred (tallyAt (kcell (c, k)) () (tot k))

/-- The device's place along `x`, as the word the body computes. -/
def w2 (c : Dev nD) : BitVec 32 := Scalar.remsi (Scalar.divsi (Dev.word c) 2#32) 2#32

/-- What is left to pay from the third copy on, and so on. -/
abbrev l0 : List (Dev nD × Fin 15) := [(yp c, 8), (yp c, 9), (yp c, 10), (yp c, 11), (yp c, 12), (xn c, 13), (xn c, 14)]
abbrev l3 : List (Dev nD × Fin 15) := [(yp c, 11), (yp c, 12), (xn c, 13), (xn c, 14)]
abbrev l4 : List (Dev nD × Fin 15) := [(yp c, 12), (xn c, 13), (xn c, 14)]
abbrev l5 : List (Dev nD × Fin 15) := [(xn c, 13), (xn c, 14)]
abbrev l6 : List (Dev nD × Fin 15) := [(xn c, 14)]

abbrev part1 := k0_part1 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part1_spec (Q) :
    iprop(ctx m ρ K ∗ owing c (debts c) ∗ tok (yp c) 0 ∗ dutyTok ER (kcell (xn c, 0)) 0 true ∗ payY c ∗ payX c ∗ crd c 0 ∗ at0 c 0
        ∗ owns (c : Thread nD τ) xM fullShare (xst m ρ c) ∗ ownsAny c xsM fullShare
        ∗ (∀ v5 v6 v7, (owing c (l0 c) ∗ at1 c 0 ∗ payY (yp c) ∗ payX (xn c) ∗ owns (c : Thread nD τ) xM fullShare (xst m ρ c)
              ∗ owns (c : Thread nD τ) xsM fullShare (xs m ρ c)) -∗ Q ⟨c, w2 c, v5, v6, v7, k0_pay3 (xst m ρ c)⟩))
      ⊢ WP (F := F) c part1 Q := by
  unfold part1
  simp only [k0_part1_eq_skeleton]; unfold k0_part1_skel
  simp only [semSignalWord, semWaitWord, Prog.lift, Prog.bind_op, Prog.bind_ret, Prog.pure_eq_ret, wp_deviceId]
  iintro ⟨#HC, HO, Ht1, Ht2, HY, HX, Hcr, Hat, Hx, Hxs, Hk⟩
  iapply (signal_step m ρ K c _ (yp c) (dev1_eq c) false ((xn c, 0) :: l0 c)) $$ [HO Ht1 HY]
  · isplitr; · iexact HC
    isplitl [HO]; · iexact HO
    isplitl [Ht1]; · iexact Ht1
    iapply (Entails.of_eq (show payY c = pay m ρ (yp c) 0 false from by unfold pay; rw [yp_yp]; rfl)); iexact HY
  iintro HO
  iapply (signal_step m ρ K c _ (xn c) (dev2_eq c) true (l0 c)) $$ [HO Ht2 HX]
  · isplitr; · iexact HC
    isplitl [HO]; · iexact HO
    isplitl [Ht2]; · iexact Ht2
    iapply (Entails.of_eq (show payX c = pay m ρ (xn c) 0 true from by unfold pay; rw [xn_xn]; rfl)); iexact HX
  iintro HO
  iapply (wait_step m ρ K c 0 (l0 c) (by revert c; decide) 2 rfl (wpE_semWait_eq 𝒱₀ (c : Thread nD τ) none Set.univ)) $$ [HO Hcr Hat]
  · isplitr; · iexact HC
    isplitl [Hcr]; · iexact Hcr
    isplitl [HO]; · iexact HO
    iexact Hat
  iintro ⟨HO, Hat, HR⟩
  ihave HR2 := (Entails.of_eq (show rest m ρ c 0 = iprop(payY (yp c) ∗ payX (xn c)) from if_pos rfl)) $$ HR
  icases HR2 with ⟨HY, HX⟩
  iapply (load_x c (xst m ρ c)) $$ Hx; iintro Hx
  iapply (load_xs c) $$ Hxs; iintro %v Hxs
  iapply (store_xs c) $$ Hxs; iintro Hxs
  rw [show Scalar.remsi (Scalar.divsi (Dev.word c) 2#32) 2#32 = w2 c from rfl]
  iapply (ret_step c)
  iapply Hk
  isplitl [HO]; · iexact HO
  isplitl [Hat]; · iexact Hat
  isplitl [HY]; · iexact HY
  isplitl [HX]; · iexact HX
  isplitl [Hx]; · iexact Hx
  iexact Hxs

abbrev part2 := k0_part2 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part2_spec (v2 v6 : BitVec 32) (v16 : FVec F S256x512 .f32) (Q) :
    iprop(ctx m ρ K
        ∗ owing c (l0 c)
        ∗ owns (c : Thread nD τ) (hs0) fullShare (hs0.view.read (Elt F) (xs m ρ c))
        ∗ owns (c : Thread nD τ) (hs1) fullShare (hs1.view.read (Elt F) (xs m ρ c))
        ∗ owns (c : Thread nD τ) (rM) fullShare (rst m ρ c)
        ∗ ownsAny (yp c) (sl0 xoM) fullShare
        ∗ ownsAny (yp c) (sl1 xoM) fullShare
        ∗ ownsAny (yp c) (roM) fullShare
        ∗ tok c 1
        ∗ tok c 2
        ∗ tok c 3
        ∗ tok (yp c) 8
        ∗ tok (yp c) 9
        ∗ tok (yp c) 10
        ∗ crd c 10
        ∗ at0 c 3
        ∗ at0 c 10
        ∗ ((owing c (l3 c) ∗ owns (c : Thread nD τ) (rM) fullShare (rst m ρ c) ∗ owns (c : Thread nD τ) (roM) fullShare (ro m ρ c) ∗ crd c 1 ∗ crd c 2 ∗ at1 c 3 ∗ at1 c 10) -∗ Q ⟨k0_pay5 (rst m ρ c), ro m ρ c, k0_pay6 v16 (rst m ρ c), constant S256x2 .f32 0x00000000#32⟩))
      ⊢ WP (F := F) c (part2 c v2 v6 v16) Q := by
  unfold part2
  simp only [k0_part2_eq_skeleton]; unfold k0_part2_skel
  simp only [Prog.lift, Prog.bind_op, Prog.bind_ret, Prog.pure_eq_ret]
  iintro ⟨#HC, HO, Hs0, Hs1, Hr, Hd0, Hd1, Hdr, Ht1, Ht2, Ht3, Ht8, Ht9, Ht10, Hc10, Ha3, Ha10, Hk⟩
  ihave Hd0 := (any_sq (yp c) (sl0 xoM) fullShare) $$ Hd0
  iapply (send_step m ρ K c (sp := .vmem) _ (yp c) (dev3_eq c) 1 8 (src := hs0) (dst := sq (sl0 xoM)) (sS := csem 1) (sR := csem 8) rfl rfl fullShare (hs0.view.read (Elt F) (xs m ρ c)) ((yp c, 9) :: (yp c, 10) :: l3 c)
      (by decide) rfl rfl (any_of c hs0 fullShare _) (land8 m ρ c)) $$ [Hs0 Hd0 HO Ht1 Ht8]
  · isplitr; · iexact HC
    isplitl [Hs0]; · iexact Hs0
    isplitl [Hd0]; · iexact Hd0
    isplitl [HO]; · iexact HO
    isplitl [Ht1]; · iexact Ht1
    iexact Ht8
  iintro ⟨Hc1, HO⟩
  ihave Hd1 := (any_sq (yp c) (sl1 xoM) fullShare) $$ Hd1
  iapply (send_step m ρ K c (sp := .vmem) _ (yp c) (dev4_eq c) 2 9 (src := hs1) (dst := sq (sl1 xoM)) (sS := csem 2) (sR := csem 9) rfl rfl fullShare (hs1.view.read (Elt F) (xs m ρ c)) ((yp c, 10) :: l3 c)
      (by decide) rfl rfl (any_of c hs1 fullShare _) (land9 m ρ c)) $$ [Hs1 Hd1 HO Ht2 Ht9]
  · isplitr; · iexact HC
    isplitl [Hs1]; · iexact Hs1
    isplitl [Hd1]; · iexact Hd1
    isplitl [HO]; · iexact HO
    isplitl [Ht2]; · iexact Ht2
    iexact Ht9
  iintro ⟨Hc2, HO⟩
  iapply (send_step m ρ K c (sp := .vmem) _ (yp c) (dev5_eq c) 3 10 (src := rM) (dst := roM) (sS := csem 3) (sR := csem 10) rfl rfl fullShare (rst m ρ c) (l3 c)
      (by decide) rfl rfl (Entails.of_eq rfl) (land10 m ρ c)) $$ [Hr Hdr HO Ht3 Ht10]
  · isplitr; · iexact HC
    isplitl [Hr]; · iexact Hr
    isplitl [Hdr]; · iexact Hdr
    isplitl [HO]; · iexact HO
    isplitl [Ht3]; · iexact Ht3
    iexact Ht10
  iintro ⟨Hc3, HO⟩
  iapply (wait_dma m ρ K c 3 (l3 c) (by clear * - c; revert c; decide) (sem := cc0_scratch12.sem) (dst := rM) rfl rfl) $$ [HO Hc3 Ha3]
  · isplitr; · iexact HC
    isplitl [Hc3]; · iexact Hc3
    isplitl [HO]; · iexact HO
    iexact Ha3
  iintro ⟨HO, Ha3, HR⟩
  ihave Hr := (Entails.of_eq (show rest m ρ c 3 = owns (c : Thread nD τ) (rM) fullShare (rst m ρ c) from rfl)) $$ HR
  iapply (wait_dma m ρ K c 10 (l3 c) (by clear * - c; revert c; decide) (sem := cc0_scratch13.sem) (dst := roM) rfl rfl) $$ [HO Hc10 Ha10]
  · isplitr; · iexact HC
    isplitl [Hc10]; · iexact Hc10
    isplitl [HO]; · iexact HO
    iexact Ha10
  iintro ⟨HO, Ha10, HR⟩
  ihave Hro := (Entails.of_eq (show rest m ρ c 10 = owns (c : Thread nD τ) (roM) fullShare (ro m ρ c) from rfl)) $$ HR
  iapply (load_r c (rst m ρ c)) $$ Hr; iintro Hr
  iapply (load_ro c (ro m ρ c)) $$ Hro; iintro Hro
  iapply (ret_step c)
  iapply Hk
  isplitl [HO]; · iexact HO
  isplitl [Hr]; · iexact Hr
  isplitl [Hro]; · iexact Hro
  isplitl [Hc1]; · iexact Hc1
  isplitl [Hc2]; · iexact Hc2
  isplitl [Ha3]; · iexact Ha3
  iexact Ha10

abbrev part3 := k0_part3 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part3_spec (v16 : FVec F S256x512 .f32) (v56 : Vec F S512x2 .f32) (v57 cst : FVec F S256x2 .f32) (Q) :
    iprop(ctx m ρ K
        ∗ owns (c : Thread nD τ) w1M fullShare (w1st m ρ c)
        ∗ owns (c : Thread nD τ) w2M fullShare (w2st m ρ c)
        ∗ ((owns (c : Thread nD τ) w1M fullShare (w1st m ρ c) ∗ owns (c : Thread nD τ) w2M fullShare (w2st m ρ c)) -∗ Q ⟨k0_pay7 v16 v56 v57 cst, k0_pay8 v16 v56 v57 cst (wA0 m ρ c) (wB0 m ρ c)⟩))
      ⊢ WP (F := F) c (part3 v16 v56 v57 cst) Q := by
  unfold part3
  simp only [k0_part3_eq_skeleton]; unfold k0_part3_skel
  simp only [Prog.lift, Prog.bind_op, Prog.bind_ret, Prog.pure_eq_ret]
  iintro ⟨#HC, Hw1, Hw2, Hk⟩
  iapply (load_wA0 m ρ c) $$ Hw1; iintro Hw1
  iapply (load_wB0 m ρ c) $$ Hw2; iintro Hw2
  iapply (ret_step c)
  iapply Hk
  isplitl [Hw1]; · iexact Hw1
  iexact Hw2

abbrev part4 := k0_part4 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part4_spec (v2 v6 : BitVec 32) (v55 : FVec F S512x2 .f32) (v56 : Vec F S512x2 .f32) (Q) :
    iprop(ctx m ρ K
        ∗ owing c (l3 c)
        ∗ crd c 1
        ∗ at0 c 1
        ∗ crd c 8
        ∗ at0 c 8
        ∗ ((owing c (l3 c) ∗ at1 c 1 ∗ at1 c 8 ∗ ownsAny (c) (hs0) fullShare ∗ owns (c : Thread nD τ) (sl0 xoM) fullShare (xo0 m ρ c)) -∗ Q ⟨k0_pay9 (xo0 m ρ c), k0_pay12 v55 v56 (xo0 m ρ c), k0_pay15 v55 v56 (xo0 m ρ c), k0_pay16 v55 v56 (xo0 m ρ c), k0_pay17 v55 v56 (xo0 m ρ c), k0_pay18⟩))
      ⊢ WP (F := F) c (part4 v2 v6 v55 v56) Q := by
  unfold part4
  simp only [k0_part4_eq_skeleton]; unfold k0_part4_skel
  simp only [Prog.lift, Prog.bind_op, Prog.bind_ret, Prog.pure_eq_ret]
  iintro ⟨#HC, HO, Hc1, Ha1, Hc8, Ha8, Hk⟩
  iapply (wait_dma m ρ K c 1 (l3 c) (by clear * - c; revert c; decide) (sem := e0 cc0_scratch6) (dst := hs0) rfl rfl) $$ [HO Hc1 Ha1]
  · isplitr; · iexact HC
    isplitl [Hc1]; · iexact Hc1
    isplitl [HO]; · iexact HO
    iexact Ha1
  iintro ⟨HO, Ha1, HR⟩
  ihave Hs0 := (Entails.of_eq (show rest m ρ c 1 = ownsAny (c) (hs0) fullShare from rfl)) $$ HR
  iapply (wait_dma m ρ K c 8 (l3 c) (by clear * - c; revert c; decide) (sem := e0 cc0_scratch7) (dst := sq (sl0 xoM)) rfl rfl) $$ [HO Hc8 Ha8]
  · isplitr; · iexact HC
    isplitl [Hc8]; · iexact Hc8
    isplitl [HO]; · iexact HO
    iexact Ha8
  iintro ⟨HO, Ha8, HR⟩
  ihave Hx0 := (Entails.of_eq (show rest m ρ c 8 = owns (c : Thread nD τ) (sl0 xoM) fullShare (xo0 m ρ c) from rfl)) $$ HR
  iapply (load_step c (fun _ => rfl) fullShare (xo0 m ρ c)) $$ Hx0; iintro Hx0
  iapply (ret_step c)
  iapply Hk
  isplitl [HO]; · iexact HO
  isplitl [Ha1]; · iexact Ha1
  isplitl [Ha8]; · iexact Ha8
  isplitl [Hs0]; · iexact Hs0
  iexact Hx0

abbrev part5 := k0_part5 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part5_spec (v114 : FVec F S64x512 .f32) (v121 v127 : IVec S64x4 1) (v129 v131 v132 : FVec F S64x1 .f32) (Q) :
    iprop(ctx m ρ K
        ∗ owns (c : Thread nD τ) w1M fullShare (w1st m ρ c)
        ∗ owns (c : Thread nD τ) w2M fullShare (w2st m ρ c)
        ∗ ((owns (c : Thread nD τ) w1M fullShare (w1st m ρ c) ∗ owns (c : Thread nD τ) w2M fullShare (w2st m ρ c)) -∗ Q (k0_pay19 v114 v121 v127 v129 v131 v132 (wA0 m ρ c) (wB0 m ρ c) (wA1 m ρ c) (wB1 m ρ c))))
      ⊢ WP (F := F) c (part5 v114 v121 v127 v129 v131 v132) Q := by
  unfold part5
  simp only [k0_part5_eq_skeleton]; unfold k0_part5_skel
  simp only [Prog.lift, Prog.bind_op, Prog.bind_ret, Prog.pure_eq_ret]
  iintro ⟨#HC, Hw1, Hw2, Hk⟩
  iapply (load_wA0 m ρ c) $$ Hw1; iintro Hw1
  iapply (load_wB0 m ρ c) $$ Hw2; iintro Hw2
  iapply (load_wA1 m ρ c) $$ Hw1; iintro Hw1
  iapply (load_wB1 m ρ c) $$ Hw2; iintro Hw2
  iapply (ret_step c)
  iapply Hk
  isplitl [Hw1]; · iexact Hw1
  iexact Hw2

abbrev part6 := k0_part6 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part6_spec (v2 v6 : BitVec 32) (v170 : FVec F S64x512 .f32) (hv : k0_pay20 v170 = ps0 m ρ c) (Q) :
    iprop(ctx m ρ K
        ∗ owing c (l3 c)
        ∗ ownsAny (c) (sl0 psM) fullShare
        ∗ ownsAny (yp c) (sl0 cdM) fullShare
        ∗ tok c 4
        ∗ tok (yp c) 11
        ∗ crd c 2
        ∗ at0 c 2
        ∗ ((owing c (l4 c) ∗ crd c 4 ∗ ownsAny (c) (hs1) fullShare ∗ at1 c 2) -∗ Q ⟨⟩))
      ⊢ WP (F := F) c (part6 c v2 v6 v170) Q := by
  unfold part6
  simp only [k0_part6_eq_skeleton]; unfold k0_part6_skel
  simp only [Prog.lift, Prog.bind_op, Prog.bind_ret, Prog.pure_eq_ret]
  iintro ⟨#HC, HO, Hp0, Hd0, Ht4, Ht11, Hc2, Ha2, Hk⟩
  iapply (load_any c (fun _ => rfl) fullShare) $$ Hp0; iintro %v Hp0
  iapply (store_step c (fun _ => rfl)) $$ Hp0; iintro Hp0
  rw [hv]
  ihave Hp0 := (owns_sq c (sl0 psM) fullShare (ps0 m ρ c)) $$ Hp0
  ihave Hd0 := (any_sq (yp c) (sl0 cdM) fullShare) $$ Hd0
  iapply (send_step m ρ K c (sp := .vmem) _ (yp c) (dev6_eq c) 4 11 (src := sq (sl0 psM)) (dst := sq (sl0 cdM)) (sS := csem 4) (sR := csem 11) rfl rfl fullShare (shapeCast S64x512 (ps0 m ρ c) shapeCasts_S1x64x512_S64x512) (l4 c)
      (by decide) rfl rfl (any_of_sq c (sl0 psM) fullShare _) (land11 m ρ c)) $$ [Hp0 Hd0 HO Ht4 Ht11]
  · isplitr; · iexact HC
    isplitl [Hp0]; · iexact Hp0
    isplitl [Hd0]; · iexact Hd0
    isplitl [HO]; · iexact HO
    isplitl [Ht4]; · iexact Ht4
    iexact Ht11
  iintro ⟨Hc4, HO⟩
  iapply (wait_dma m ρ K c 2 (l4 c) (by clear * - c; revert c; decide) (sem := e1 cc0_scratch6) (dst := hs1) rfl rfl) $$ [HO Hc2 Ha2]
  · isplitr; · iexact HC
    isplitl [Hc2]; · iexact Hc2
    isplitl [HO]; · iexact HO
    iexact Ha2
  iintro ⟨HO, Ha2, HR⟩
  ihave Hs1 := (Entails.of_eq (show rest m ρ c 2 = ownsAny (c) (hs1) fullShare from rfl)) $$ HR
  iapply (ret_step c)
  iapply Hk
  isplitl [HO]; · iexact HO
  isplitl [Hc4]; · iexact Hc4
  isplitl [Hs1]; · iexact Hs1
  iexact Ha2

abbrev part7 := k0_part7 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part7_spec (v55 : FVec F S512x2 .f32) (v56 : Vec F S512x2 .f32) (Q) :
    iprop(ctx m ρ K
        ∗ owing c (l4 c)
        ∗ crd c 9
        ∗ at0 c 9
        ∗ owns (c : Thread nD τ) w1M fullShare (w1st m ρ c)
        ∗ ((owing c (l4 c) ∗ at1 c 9 ∗ owns (c : Thread nD τ) (sl1 xoM) fullShare (xo1 m ρ c) ∗ owns (c : Thread nD τ) w1M fullShare (w1st m ρ c)) -∗ Q ⟨k0_pay21 (xo1 m ρ c), k0_pay22 v55 v56 (xo1 m ρ c), k0_pay23, k0_pay24 (xo1 m ρ c) (wA0 m ρ c)⟩))
      ⊢ WP (F := F) c (part7 v55 v56) Q := by
  unfold part7
  simp only [k0_part7_eq_skeleton]; unfold k0_part7_skel
  simp only [Prog.lift, Prog.bind_op, Prog.bind_ret, Prog.pure_eq_ret]
  iintro ⟨#HC, HO, Hc9, Ha9, Hw1, Hk⟩
  iapply (wait_dma m ρ K c 9 (l4 c) (by clear * - c; revert c; decide) (sem := e1 cc0_scratch7) (dst := sq (sl1 xoM)) rfl rfl) $$ [HO Hc9 Ha9]
  · isplitr; · iexact HC
    isplitl [Hc9]; · iexact Hc9
    isplitl [HO]; · iexact HO
    iexact Ha9
  iintro ⟨HO, Ha9, HR⟩
  ihave Hx1 := (Entails.of_eq (show rest m ρ c 9 = owns (c : Thread nD τ) (sl1 xoM) fullShare (xo1 m ρ c) from rfl)) $$ HR
  iapply (load_step c (fun _ => rfl) fullShare (xo1 m ρ c)) $$ Hx1; iintro Hx1
  iapply (load_wA0 m ρ c) $$ Hw1; iintro Hw1
  iapply (ret_step c)
  iapply Hk
  isplitl [HO]; · iexact HO
  isplitl [Ha9]; · iexact Ha9
  isplitl [Hx1]; · iexact Hx1
  iexact Hw1

abbrev part8 := k0_part8 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part8_spec (v2 v6 : BitVec 32) (v201 : FVec F S64x512 .f32) (v232 : FVec F S64x4 .f32) (v233 : FVec F S64x512 .f32) (v238 : FVec F S64x1024 .f32) (Q) :
    iprop(ctx m ρ K
        ∗ owns (c : Thread nD τ) w1M fullShare (w1st m ρ c)
        ∗ owns (c : Thread nD τ) w2M fullShare (w2st m ρ c)
        ∗ ownsAny (c) (sl1 psM) fullShare
        ∗ ((owns (c : Thread nD τ) w1M fullShare (w1st m ρ c) ∗ owns (c : Thread nD τ) w2M fullShare (w2st m ρ c) ∗ owns (c : Thread nD τ) (sl1 psM) fullShare (k0_pay25 v201 v232 v233 v238 (wB0 m ρ c) (wA1 m ρ c) (wB1 m ρ c))) -∗ Q ⟨⟩))
      ⊢ WP (F := F) c (part8 v2 v6 v201 v232 v233 v238) Q := by
  unfold part8
  simp only [k0_part8_eq_skeleton]; unfold k0_part8_skel
  simp only [Prog.lift, Prog.bind_op, Prog.bind_ret, Prog.pure_eq_ret]
  iintro ⟨#HC, Hw1, Hw2, Hp1, Hk⟩
  iapply (load_wB0 m ρ c) $$ Hw2; iintro Hw2
  iapply (load_wA1 m ρ c) $$ Hw1; iintro Hw1
  iapply (load_wB1 m ρ c) $$ Hw2; iintro Hw2
  iapply (load_any c (fun _ => rfl) fullShare) $$ Hp1; iintro %v Hp1
  iapply (store_step c (fun _ => rfl)) $$ Hp1; iintro Hp1
  iapply (ret_step c)
  iapply Hk
  isplitl [Hw1]; · iexact Hw1
  isplitl [Hw2]; · iexact Hw2
  iexact Hp1

abbrev part9 := k0_part9 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part9_spec (v2 v6 : BitVec 32) (v16 : FVec F S256x512 .f32) (v87 : FVec F S256x4 .f32) (v98 : FVec F S256x512 .f32) (Q) :
    iprop(ctx m ρ K
        ∗ owing c (l4 c)
        ∗ owns (c : Thread nD τ) (sl1 psM) fullShare (ps1 m ρ c)
        ∗ ownsAny (yp c) (sl1 cdM) fullShare
        ∗ tok c 5
        ∗ tok (yp c) 12
        ∗ owns (c : Thread nD τ) w1M fullShare (w1st m ρ c)
        ∗ owns (c : Thread nD τ) w2M fullShare (w2st m ρ c)
        ∗ crd c 4
        ∗ at0 c 4
        ∗ ((owing c (l5 c) ∗ crd c 5 ∗ owns (c : Thread nD τ) w1M fullShare (w1st m ρ c) ∗ owns (c : Thread nD τ) w2M fullShare (w2st m ρ c) ∗ ownsAny (c) (sl0 psM) fullShare ∗ at1 c 4) -∗ Q (k0_pay26 v16 v87 v98 (wA1 m ρ c) (wB1 m ρ c))))
      ⊢ WP (F := F) c (part9 c v2 v6 v16 v87 v98) Q := by
  unfold part9
  simp only [k0_part9_eq_skeleton]; unfold k0_part9_skel
  simp only [Prog.lift, Prog.bind_op, Prog.bind_ret, Prog.pure_eq_ret]
  iintro ⟨#HC, HO, Hp1, Hd1, Ht5, Ht12, Hw1, Hw2, Hc4, Ha4, Hk⟩
  ihave Hp1 := (owns_sq c (sl1 psM) fullShare (ps1 m ρ c)) $$ Hp1
  ihave Hd1 := (any_sq (yp c) (sl1 cdM) fullShare) $$ Hd1
  iapply (send_step m ρ K c (sp := .vmem) _ (yp c) (dev7_eq c) 5 12 (src := sq (sl1 psM)) (dst := sq (sl1 cdM)) (sS := csem 5) (sR := csem 12) rfl rfl fullShare (shapeCast S64x512 (ps1 m ρ c) shapeCasts_S1x64x512_S64x512) (l5 c)
      (by decide) rfl rfl (any_of_sq c (sl1 psM) fullShare _) (land12 m ρ c)) $$ [Hp1 Hd1 HO Ht5 Ht12]
  · isplitr; · iexact HC
    isplitl [Hp1]; · iexact Hp1
    isplitl [Hd1]; · iexact Hd1
    isplitl [HO]; · iexact HO
    isplitl [Ht5]; · iexact Ht5
    iexact Ht12
  iintro ⟨Hc5, HO⟩
  iapply (load_wA1 m ρ c) $$ Hw1; iintro Hw1
  iapply (load_wB1 m ρ c) $$ Hw2; iintro Hw2
  iapply (wait_dma m ρ K c 4 (l5 c) (by clear * - c; revert c; decide) (sem := e0 cc0_scratch8) (dst := sq (sl0 psM)) rfl rfl) $$ [HO Hc4 Ha4]
  · isplitr; · iexact HC
    isplitl [Hc4]; · iexact Hc4
    isplitl [HO]; · iexact HO
    iexact Ha4
  iintro ⟨HO, Ha4, HR⟩
  ihave Hp0 := (Entails.of_eq (show rest m ρ c 4 = ownsAny (c) (sl0 psM) fullShare from rfl)) $$ HR
  iapply (ret_step c)
  iapply Hk
  isplitl [HO]; · iexact HO
  isplitl [Hc5]; · iexact Hc5
  isplitl [Hw1]; · iexact Hw1
  isplitl [Hw2]; · iexact Hw2
  isplitl [Hp0]; · iexact Hp0
  iexact Ha4

abbrev part10 := k0_part10 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part10_spec (v2 v5 v6 v7 : BitVec 32) (Q) :
    iprop(ctx m ρ K
        ∗ owing c (l5 c)
        ∗ crd c 11
        ∗ at0 c 11
        ∗ ownsAny (xn c) (sl0 cfM) fullShare
        ∗ tok c 6
        ∗ tok (xn c) 13
        ∗ crd c 5
        ∗ at0 c 5
        ∗ ((owing c (l6 c) ∗ at1 c 11 ∗ owns (c : Thread nD τ) (sl0 cdM) fullShare.left (cd0 m ρ c) ∗ crd c 6 ∗ ownsAny (c) (sl1 psM) fullShare ∗ at1 c 5) -∗ Q ⟨⟩))
      ⊢ WP (F := F) c (part10 c v2 v5 v6 v7) Q := by
  unfold part10
  simp only [k0_part10_eq_skeleton]; unfold k0_part10_skel
  simp only [Prog.lift, Prog.bind_op, Prog.bind_ret, Prog.pure_eq_ret]
  iintro ⟨#HC, HO, Hc11, Ha11, Hd0, Ht6, Ht13, Hc5, Ha5, Hk⟩
  iapply (wait_dma m ρ K c 11 (l5 c) (by clear * - c; revert c; decide) (sem := e0 cc0_scratch9) (dst := sq (sl0 cdM)) rfl rfl) $$ [HO Hc11 Ha11]
  · isplitr; · iexact HC
    isplitl [Hc11]; · iexact Hc11
    isplitl [HO]; · iexact HO
    iexact Ha11
  iintro ⟨HO, Ha11, HR⟩
  ihave Hcd := (Entails.of_eq (show rest m ρ c 11 = owns (c : Thread nD τ) (sl0 cdM) fullShare (cd0 m ρ c) from rfl)) $$ HR
  ihave Hh := (owns_halves (c : Thread nD τ) (sl0 cdM) fullShare (cd0 m ρ c)).1 $$ Hcd
  icases Hh with ⟨HcL, HcR⟩
  ihave HcR := (owns_sq c (sl0 cdM) fullShare.right (cd0 m ρ c)) $$ HcR
  ihave Hd0 := (any_sq (xn c) (sl0 cfM) fullShare) $$ Hd0
  iapply (send_step m ρ K c (sp := .vmem) _ (xn c) (dev8_eq c) 6 13 (src := sq (sl0 cdM)) (dst := sq (sl0 cfM)) (sS := csem 6) (sR := csem 13) rfl rfl fullShare.right (shapeCast S64x512 (cd0 m ρ c) shapeCasts_S1x64x512_S64x512) (l6 c)
      (by decide) rfl rfl (any_of_sq c (sl0 cdM) fullShare.right _) (land13 m ρ c)) $$ [HcR Hd0 HO Ht6 Ht13]
  · isplitr; · iexact HC
    isplitl [HcR]; · iexact HcR
    isplitl [Hd0]; · iexact Hd0
    isplitl [HO]; · iexact HO
    isplitl [Ht6]; · iexact Ht6
    iexact Ht13
  iintro ⟨Hc6, HO⟩
  iapply (wait_dma m ρ K c 5 (l6 c) (by clear * - c; revert c; decide) (sem := e1 cc0_scratch8) (dst := sq (sl1 psM)) rfl rfl) $$ [HO Hc5 Ha5]
  · isplitr; · iexact HC
    isplitl [Hc5]; · iexact Hc5
    isplitl [HO]; · iexact HO
    iexact Ha5
  iintro ⟨HO, Ha5, HR⟩
  ihave Hp1 := (Entails.of_eq (show rest m ρ c 5 = ownsAny (c) (sl1 psM) fullShare from rfl)) $$ HR
  iapply (ret_step c)
  iapply Hk
  isplitl [HO]; · iexact HO
  isplitl [Ha11]; · iexact Ha11
  isplitl [HcL]; · iexact HcL
  isplitl [Hc6]; · iexact Hc6
  isplitl [Hp1]; · iexact Hp1
  iexact Ha5

/-- The device is in the first row of the mesh. -/
def top (c : Dev nD) : Prop := c.val < 2
instance (c : Dev nD) : Decidable (top c) := by unfold top; infer_instance

theorem cond0_top : ∀ c : Dev nD, top c → Scalar.cmpi .ne (Scalar.extui (Scalar.cmpi .eq (w2 c) 0#32)) 0#32 = 1#1 := by decide
theorem cond1_top : ∀ c : Dev nD, top c → ¬ Scalar.cmpi .ne (Scalar.extui (Scalar.cmpi .eq (w2 c) 1#32)) 0#32 = 1#1 := by decide
theorem cond0_bot : ∀ c : Dev nD, ¬ top c → ¬ Scalar.cmpi .ne (Scalar.extui (Scalar.cmpi .eq (w2 c) 0#32)) 0#32 = 1#1 := by decide
theorem cond1_bot : ∀ c : Dev nD, ¬ top c → Scalar.cmpi .ne (Scalar.extui (Scalar.cmpi .eq (w2 c) 1#32)) 0#32 = 1#1 := by decide

abbrev ro0 : Rect S256x512 := Rect.unit (s := S256x512) ![0, 0] S64x512.size inb_S256x512_S64x512_0_0
abbrev ro64 : Rect S256x512 := Rect.unit (s := S256x512) ![64, 0] S64x512.size inb_S256x512_S64x512_64_0
abbrev ro128 : Rect S256x512 := Rect.unit (s := S256x512) ![128, 0] S64x512.size inb_S256x512_S64x512_128_0
abbrev ro192 : Rect S256x512 := Rect.unit (s := S256x512) ![192, 0] S64x512.size inb_S256x512_S64x512_192_0

/-- The result's buffer after the stores of the rows that came back, of the first forwarded rows, of the second. -/
def o11 (c : Dev nD) (v : FVec F S256x512 .f32) (X : Vec F S256x512 .f32) : Vec F S256x512 .f32 :=
  if top c then wr ro64 (wr ro0 X (k0_pay27 v (cd0 m ρ c))) (k0_pay29 v (cd1 m ρ c))
  else wr ro192 (wr ro128 X (k0_pay28 v (cd0 m ρ c))) (k0_pay30 v (cd1 m ρ c))
def o12 (c : Dev nD) (v : FVec F S256x512 .f32) (X : Vec F S256x512 .f32) : Vec F S256x512 .f32 :=
  if top c then wr ro128 X (k0_pay31 v (cf0 m ρ c)) else wr ro0 X (k0_pay32 v (cf0 m ρ c))
def o13 (c : Dev nD) (v : FVec F S256x512 .f32) (X : Vec F S256x512 .f32) : Vec F S256x512 .f32 :=
  if top c then wr ro192 X (k0_pay1 v (cf1 m ρ c)) else wr ro64 X (k0_pay2 v (cf1 m ρ c))

abbrev part11 := k0_part11 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part11_spec (v5 v7 : BitVec 32) (v : FVec F S256x512 .f32) (X : Vec F S256x512 .f32) (Q) :
    iprop(ctx m ρ K
        ∗ owing c (l6 c)
        ∗ crd c 12
        ∗ at0 c 12
        ∗ ownsAny (xn c) (sl1 cfM) fullShare
        ∗ tok c 7
        ∗ tok (xn c) 14
        ∗ owns (c : Thread nD τ) (sl0 cdM) fullShare.left (cd0 m ρ c)
        ∗ owns (c : Thread nD τ) (oM) fullShare (X)
        ∗ ((owing c [] ∗ at1 c 12 ∗ owns (c : Thread nD τ) (sl0 cdM) fullShare.left (cd0 m ρ c) ∗ owns (c : Thread nD τ) (sl1 cdM) fullShare.left (cd1 m ρ c) ∗ crd c 7 ∗ owns (c : Thread nD τ) (oM) fullShare (o11 m ρ c v X)) -∗ Q ⟨⟩))
      ⊢ WP (F := F) c (part11 c (w2 c) v5 v7 v) Q := by
  unfold part11
  simp only [k0_part11_eq_skeleton]; unfold k0_part11_skel
  simp only [Prog.lift, Prog.bind_op, Prog.bind_ret, Prog.pure_eq_ret]
  iintro ⟨#HC, HO, Hc12, Ha12, Hd1, Ht7, Ht14, HcL, Hout, Hk⟩
  iapply (wait_dma m ρ K c 12 (l6 c) (by clear * - c; revert c; decide) (sem := e1 cc0_scratch9) (dst := sq (sl1 cdM)) rfl rfl) $$ [HO Hc12 Ha12]
  · isplitr; · iexact HC
    isplitl [Hc12]; · iexact Hc12
    isplitl [HO]; · iexact HO
    iexact Ha12
  iintro ⟨HO, Ha12, HR⟩
  ihave Hcd := (Entails.of_eq (show rest m ρ c 12 = owns (c : Thread nD τ) (sl1 cdM) fullShare (cd1 m ρ c) from rfl)) $$ HR
  ihave Hh := (owns_halves (c : Thread nD τ) (sl1 cdM) fullShare (cd1 m ρ c)).1 $$ Hcd
  icases Hh with ⟨HdL, HcR⟩
  ihave HcR := (owns_sq c (sl1 cdM) fullShare.right (cd1 m ρ c)) $$ HcR
  ihave Hd1 := (any_sq (xn c) (sl1 cfM) fullShare) $$ Hd1
  iapply (send_step m ρ K c (sp := .vmem) _ (xn c) (dev9_eq c) 7 14 (src := sq (sl1 cdM)) (dst := sq (sl1 cfM)) (sS := csem 7) (sR := csem 14) rfl rfl fullShare.right (shapeCast S64x512 (cd1 m ρ c) shapeCasts_S1x64x512_S64x512) ([])
      (by decide) rfl rfl (any_of_sq c (sl1 cdM) fullShare.right _) (land14 m ρ c)) $$ [HcR Hd1 HO Ht7 Ht14]
  · isplitr; · iexact HC
    isplitl [HcR]; · iexact HcR
    isplitl [Hd1]; · iexact Hd1
    isplitl [HO]; · iexact HO
    isplitl [Ht7]; · iexact Ht7
    iexact Ht14
  iintro ⟨Hc7, HO⟩
  by_cases h : top c
  · simp only [dif_pos (cond0_top c h), dif_neg (cond1_top c h), if_pos (cond0_top c h), if_neg (cond1_top c h), Prog.bind_op, Prog.bind_ret, Prog.pure_eq_ret]
    iapply (load_step c (fun _ => rfl) fullShare.left (cd0 m ρ c)) $$ HcL; iintro HcL
    iapply (load_out c _) $$ Hout; iintro %_ Hout
    iapply (store_out c _) $$ Hout; iintro Hout
    iapply (load_step c (fun _ => rfl) fullShare.left (cd1 m ρ c)) $$ HdL; iintro HdL
    iapply (load_out c _) $$ Hout; iintro %_ Hout
    iapply (store_out c _) $$ Hout; iintro Hout
    iapply (ret_step c)
    iapply Hk
    isplitl [HO]; · iexact HO
    isplitl [Ha12]; · iexact Ha12
    isplitl [HcL]; · iexact HcL
    isplitl [HdL]; · iexact HdL
    isplitl [Hc7]; · iexact Hc7
    unfold o11; rw [if_pos h]; iexact Hout
  · simp only [dif_neg (cond0_bot c h), dif_pos (cond1_bot c h), if_neg (cond0_bot c h), if_pos (cond1_bot c h), Prog.bind_op, Prog.bind_ret, Prog.pure_eq_ret]
    iapply (load_step c (fun _ => rfl) fullShare.left (cd0 m ρ c)) $$ HcL; iintro HcL
    iapply (load_out c _) $$ Hout; iintro %_ Hout
    iapply (store_out c _) $$ Hout; iintro Hout
    iapply (load_step c (fun _ => rfl) fullShare.left (cd1 m ρ c)) $$ HdL; iintro HdL
    iapply (load_out c _) $$ Hout; iintro %_ Hout
    iapply (store_out c _) $$ Hout; iintro Hout
    iapply (ret_step c)
    iapply Hk
    isplitl [HO]; · iexact HO
    isplitl [Ha12]; · iexact Ha12
    isplitl [HcL]; · iexact HcL
    isplitl [HdL]; · iexact HdL
    isplitl [Hc7]; · iexact Hc7
    unfold o11; rw [if_neg h]; iexact Hout

abbrev part12 := k0_part12 (F := F) xM (Memref.isWhole_whole _) rM (Memref.isWhole_whole _) w1M (Memref.isWhole_whole _) w2M (Memref.isWhole_whole _) oM (Memref.isWhole_whole _) xsM (Memref.isWhole_whole _) xoM (Memref.isWhole_whole _) roM (Memref.isWhole_whole _) psM (Memref.isWhole_whole _) cdM (Memref.isWhole_whole _) cfM (Memref.isWhole_whole _) cc0_scratch6 cc0_scratch7 cc0_scratch8 cc0_scratch9 cc0_scratch10 cc0_scratch11 cc0_scratch12 cc0_scratch13

theorem part12_spec (v5 v7 : BitVec 32) (v : FVec F S256x512 .f32) (X : Vec F S256x512 .f32) (Q) :
    iprop(ctx m ρ K
        ∗ owing c []
        ∗ crd c 6
        ∗ at0 c 6
        ∗ crd c 13
        ∗ at0 c 13
        ∗ crd c 7
        ∗ at0 c 7
        ∗ owns (c : Thread nD τ) (oM) fullShare (X)
        ∗ ((owing c [] ∗ at1 c 6 ∗ at1 c 13 ∗ at1 c 7 ∗ ownsAny (c) (sl0 cdM) fullShare.right ∗ ownsAny (c) (sl1 cdM) fullShare.right ∗ owns (c : Thread nD τ) (sl0 cfM) fullShare (cf0 m ρ c) ∗ owns (c : Thread nD τ) (oM) fullShare (o12 m ρ c v X)) -∗ Q ⟨⟩))
      ⊢ WP (F := F) c (part12 (w2 c) v5 v7 v) Q := by
  unfold part12
  simp only [k0_part12_eq_skeleton]; unfold k0_part12_skel
  simp only [Prog.lift, Prog.bind_op, Prog.bind_ret, Prog.pure_eq_ret]
  iintro ⟨#HC, HO, Hc6, Ha6, Hc13, Ha13, Hc7, Ha7, Hout, Hk⟩
  iapply (wait_dma m ρ K c 6 ([]) (by clear * - c; revert c; decide) (sem := e0 cc0_scratch10) (dst := sq (sl0 cdM)) rfl rfl) $$ [HO Hc6 Ha6]
  · isplitr; · iexact HC
    isplitl [Hc6]; · iexact Hc6
    isplitl [HO]; · iexact HO
    iexact Ha6
  iintro ⟨HO, Ha6, HR⟩
  ihave HcR := (Entails.of_eq (show rest m ρ c 6 = ownsAny (c) (sl0 cdM) fullShare.right from rfl)) $$ HR
  iapply (wait_dma m ρ K c 13 ([]) (by clear * - c; revert c; decide) (sem := e0 cc0_scratch11) (dst := sq (sl0 cfM)) rfl rfl) $$ [HO Hc13 Ha13]
  · isplitr; · iexact HC
    isplitl [Hc13]; · iexact Hc13
    isplitl [HO]; · iexact HO
    iexact Ha13
  iintro ⟨HO, Ha13, HR⟩
  ihave Hf0 := (Entails.of_eq (show rest m ρ c 13 = owns (c : Thread nD τ) (sl0 cfM) fullShare (cf0 m ρ c) from rfl)) $$ HR
  by_cases h : top c
  · simp only [dif_pos (cond0_top c h), dif_neg (cond1_top c h), if_pos (cond0_top c h), if_neg (cond1_top c h), Prog.bind_op, Prog.bind_ret, Prog.pure_eq_ret]
    iapply (load_step c (fun _ => rfl) fullShare (cf0 m ρ c)) $$ Hf0; iintro Hf0
    iapply (load_out c _) $$ Hout; iintro %_ Hout
    iapply (store_out c _) $$ Hout; iintro Hout
    iapply (wait_dma m ρ K c 7 ([]) (by clear * - c; revert c; decide) (sem := e1 cc0_scratch10) (dst := sq (sl1 cdM)) rfl rfl) $$ [HO Hc7 Ha7]
    · isplitr; · iexact HC
      isplitl [Hc7]; · iexact Hc7
      isplitl [HO]; · iexact HO
      iexact Ha7
    iintro ⟨HO, Ha7, HR⟩
    ihave HdR := (Entails.of_eq (show rest m ρ c 7 = ownsAny (c) (sl1 cdM) fullShare.right from rfl)) $$ HR
    iapply (ret_step c)
    iapply Hk
    isplitl [HO]; · iexact HO
    isplitl [Ha6]; · iexact Ha6
    isplitl [Ha13]; · iexact Ha13
    isplitl [Ha7]; · iexact Ha7
    isplitl [HcR]; · iexact HcR
    isplitl [HdR]; · iexact HdR
    isplitl [Hf0]; · iexact Hf0
    unfold o12; rw [if_pos h]; iexact Hout
  · simp only [dif_neg (cond0_bot c h), dif_pos (cond1_bot c h), if_neg (cond0_bot c h), if_pos (cond1_bot c h), Prog.bind_op, Prog.bind_ret, Prog.pure_eq_ret]
    iapply (load_step c (fun _ => rfl) fullShare (cf0 m ρ c)) $$ Hf0; iintro Hf0
    iapply (load_out c _) $$ Hout; iintro %_ Hout
    iapply (store_out c _) $$ Hout; iintro Hout
    iapply (wait_dma m ρ K c 7 ([]) (by clear * - c; revert c; decide) (sem := e1 cc0_scratch10) (dst := sq (sl1 cdM)) rfl rfl) $$ [HO Hc7 Ha7]
    · isplitr; · iexact HC
      isplitl [Hc7]; · iexact Hc7
      isplitl [HO]; · iexact HO
      iexact Ha7
    iintro ⟨HO, Ha7, HR⟩
    ihave HdR := (Entails.of_eq (show rest m ρ c 7 = ownsAny (c) (sl1 cdM) fullShare.right from rfl)) $$ HR
    iapply (ret_step c)
    iapply Hk
    isplitl [HO]; · iexact HO
    isplitl [Ha6]; · iexact Ha6
    isplitl [Ha13]; · iexact Ha13
    isplitl [Ha7]; · iexact Ha7
    isplitl [HcR]; · iexact HcR
    isplitl [HdR]; · iexact HdR
    isplitl [Hf0]; · iexact Hf0
    unfold o12; rw [if_neg h]; iexact Hout

end Parts

end Cert.Exchange

end
-- ==== Proof.Body.lean ====
/-
# The body

The parts run one after the other at a symbolic device; the buffers of two tiles split into their slots and joined
again; every cell closed at the end; what the result's buffer holds then.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer as its two slots -/

section Slots
variable (c : Dev nD) {s : Shape} {e : EltTy} (M : Memref sig .tc .vmem s e) (r0 r1 : Rect s) (h0 : ∀ a, r0.stride a = 1) (h1 : ∀ a, r1.stride a = 1)
  (hd : Disjoint r0.set r1.set) (hu : r0.set ∪ r1.set = Finset.univ)
include hd hu

theorem slots_disjoint : Disjoint (M.slice r0 h0).view.set (M.slice r1 h1).view.set := by
  show Disjoint (M.view.slice r0).set (M.view.slice r1).set
  rw [View.set_slice, View.set_slice]; exact (Finset.disjoint_map _).mpr hd
theorem slots_union : M.view.set = (M.slice r0 h0).view.set ∪ (M.slice r1 h1).view.set := by
  show M.view.set = (M.view.slice r0).set ∪ (M.view.slice r1).set
  rw [View.set_slice, View.set_slice, ← Finset.map_union, hu]; rfl

theorem slots_split (f : M.view.ty.Contents (Elt F)) :
    (M.view.loc (c : Thread nD τ) ↦[M.view.set]{fullShare} f : sProp 𝕄)
      ⊢ iprop(owns (c : Thread nD τ) (M.slice r0 h0) fullShare ((M.slice r0 h0).view.read (Elt F) f)
        ∗ owns (c : Thread nD τ) (M.slice r1 h1) fullShare ((M.slice r1 h1).view.read (Elt F) f)) := by
  rw [slots_union M r0 r1 h0 h1 hd hu]
  iintro H
  ihave H2 := (pointsTo_union (slots_disjoint M r0 r1 h0 h1 hd hu)).1 $$ H
  icases H2 with ⟨HA, HB⟩
  isplitl [HA]
  · iapply (owns_intro (c : Thread nD τ) (M.slice r0 h0) fullShare f); iexact HA
  · iapply (owns_intro (c : Thread nD τ) (M.slice r1 h1) fullShare f); iexact HB

theorem slots_any : (ownsAny c M fullShare : sProp 𝕄) ⊢ iprop(ownsAny c (M.slice r0 h0) fullShare ∗ ownsAny c (M.slice r1 h1) fullShare) := by
  refine (ownsSat_true (c : Thread nD τ) M fullShare).1.trans ?_
  unfold owns
  iintro ⟨%_, %f, -, H⟩
  ihave H2 := (slots_split c M r0 r1 h0 h1 hd hu f) $$ H
  icases H2 with ⟨HA, HB⟩
  isplitl [HA]
  · iapply (ownsSat_intro (c : Thread nD τ) (M.slice r0 h0) fullShare (Φ := fun _ => True) trivial); iexact HA
  · iapply (ownsSat_intro (c : Thread nD τ) (M.slice r1 h1) fullShare (Φ := fun _ => True) trivial); iexact HB

theorem slots_join : iprop(ownsAny c (M.slice r0 h0) fullShare ∗ ownsAny c (M.slice r1 h1) fullShare) ⊢ (ownsAny c M fullShare : sProp 𝕄) := by
  unfold ownsAny ownsSat
  iintro ⟨⟨%f, -, HA⟩, ⟨%g, -, HB⟩⟩
  iexists (M.slice r1 h1).view.set.piecewise g f
  isplitr
  · ipureintro; trivial
  · rw [slots_union M r0 r1 h0 h1 hd hu]
    iapply (pointsTo_join (slots_disjoint M r0 r1 h0 h1 hd hu))
    isplitl [HA]
    · iexact HA
    · iexact HB

end Slots

theorem rc_disj : Disjoint rc0.set rc1.set := Rect.unit_disjoint (0 : Fin 3) (Or.inl (by decide))
theorem rc_union : rc0.set ∪ rc1.set = Finset.univ := by
  ext i
  simp only [Finset.mem_union, Finset.mem_univ, iff_true, Rect.mem_set_unit]
  have h0 := (i 0).isLt; have h1 := (i 1).isLt; have h2 := (i 2).isLt
  rcases Nat.lt_or_ge (i 0).val 1 with h | h
  · refine Or.inl fun a => ?_
    fin_cases a
    · exact ⟨Nat.zero_le _, h⟩
    · exact ⟨Nat.zero_le _, h1⟩
    · exact ⟨Nat.zero_le _, h2⟩
  · refine Or.inr fun a => ?_
    fin_cases a
    · exact ⟨h, h0⟩
    · exact ⟨Nat.zero_le _, h1⟩
    · exact ⟨Nat.zero_le _, h2⟩
theorem rh_disj : Disjoint rh0.set rh1.set := Rect.unit_disjoint (0 : Fin 2) (Or.inl (by decide))
theorem rh_union : rh0.set ∪ rh1.set = Finset.univ := by
  ext i
  simp only [Finset.mem_union, Finset.mem_univ, iff_true, Rect.mem_set_unit]
  have h0 := (i 0).isLt; have h1 := (i 1).isLt
  rcases Nat.lt_or_ge (i 0).val 64 with h | h
  · refine Or.inl fun a => ?_
    fin_cases a
    · exact ⟨Nat.zero_le _, h⟩
    · exact ⟨Nat.zero_le _, h1⟩
  · refine Or.inr fun a => ?_
    fin_cases a
    · exact ⟨h, h0⟩
    · exact ⟨Nat.zero_le _, h1⟩

theorem two_split (c : Dev nD) (M : Memref sig .tc .vmem S2x64x512 .f32) :
    (ownsAny c M fullShare : sProp 𝕄) ⊢ iprop(ownsAny c (sl0 M) fullShare ∗ ownsAny c (sl1 M) fullShare) :=
  slots_any c M rc0 rc1 (fun _ => rfl) (fun _ => rfl) rc_disj rc_union
theorem two_join (c : Dev nD) (M : Memref sig .tc .vmem S2x64x512 .f32) :
    iprop(ownsAny c (sl0 M) fullShare ∗ ownsAny c (sl1 M) fullShare) ⊢ (ownsAny c M fullShare : sProp 𝕄) :=
  slots_join c M rc0 rc1 (fun _ => rfl) (fun _ => rfl) rc_disj rc_union
theorem xs_split (c : Dev nD) (X : Vec F S128x512 .f32) :
    (owns (c : Thread nD τ) xsM fullShare X : sProp 𝕄) ⊢ iprop(owns (c : Thread nD τ) hs0 fullShare (hs0.view.read (Elt F) X) ∗ owns (c : Thread nD τ) hs1 fullShare (hs1.view.read (Elt F) X)) := by
  refine BIBase.Entails.trans ?_ (slots_split c xsM rh0 rh1 (fun _ => rfl) (fun _ => rfl) rh_disj rh_union X)
  unfold owns
  iintro ⟨%f, %hf, H⟩
  have e : f = X := hf
  subst e
  iexact H
theorem xs_join (c : Dev nD) : iprop(ownsAny c hs0 fullShare ∗ ownsAny c hs1 fullShare) ⊢ (ownsAny c xsM fullShare : sProp 𝕄) :=
  slots_join c xsM rh0 rh1 (fun _ => rfl) (fun _ => rfl) rh_disj rh_union

/-! ## What the body leaves in the result's buffer -/

/-- The rows of a 64-row store, read at an index. -/
theorem wr_apply (o : ℕ) (inb) (X : Vec F S256x512 .f32) (w : S64x512.Idx → Elt F .f32) (i : S256x512.Idx) :
    (∀ j : S64x512.Idx, (i 0).val = o + (j 0).val → (i 1).val = (j 1).val → wr (Rect.unit (s := S256x512) ![o, 0] S64x512.size inb) X w i = w j)
      ∧ (¬ (o ≤ (i 0).val ∧ (i 0).val < o + 64) → wr (Rect.unit (s := S256x512) ![o, 0] S64x512.size inb) X w i = X i) := by
  constructor
  · intro j h0 h1
    have e : (oM.access (Rect.unit (s := S256x512) ![o, 0] S64x512.size inb)).emb j = i := by
      funext a
      apply Fin.ext
      fin_cases a
      · show o + 1 * (j 0).val = (i 0).val
        omega
      · show 0 + 1 * (j 1).val = (i 1).val
        omega
    unfold wr
    rw [← e, View.write_emb_of_mem _ _ (Finset.mem_univ j)]
    rfl
  · intro h
    unfold wr
    apply View.write_of_not_mem
    intro hm
    have hm' : i ∈ (oM.view.slice (Rect.unit (s := S256x512) ![o, 0] S64x512.size inb)).set := hm
    rw [View.set_slice] at hm'
    have hm2 : i ∈ (Rect.unit (s := S256x512) ![o, 0] S64x512.size inb).set := by
      obtain ⟨a, ha, e⟩ := Finset.mem_map.mp hm'
      have e' : a = i := e
      exact e' ▸ ha
    exact h (Rect.mem_set_unit.mp hm2 (0 : Fin 2))

/-- The row of a tile that a row of the block falls on. -/
def lowRow (i : S256x512.Idx) : S64x512.Idx := fun a => match a with
  | ⟨0, _⟩ => ⟨(i 0).val % 64, Nat.mod_lt _ (by decide)⟩
  | ⟨1, _⟩ => i 1

/-- The partial sums of the other experts for the rows of tile `b`. -/
def backTile (c : Dev nD) (b : ℕ) : Vec F S1x64x512 .f32 :=
  if top c then (if b = 0 then cd0 m ρ c else if b = 1 then cd1 m ρ c else if b = 2 then cf0 m ρ c else cf1 m ρ c)
  else (if b = 0 then cf0 m ρ c else if b = 1 then cf1 m ρ c else if b = 2 then cd0 m ρ c else cd1 m ρ c)

def back (c : Dev nD) : FVec F S256x512 .f32 := fun i =>
  shapeCast S64x512 (backTile m ρ c ((i 0).val / 64)) shapeCasts_S1x64x512_S64x512 (lowRow i)

/-- The result on device `c`. -/
def outAt (c : Dev nD) : FVec F S256x512 .f32 := addf (mine m ρ c) (back m ρ c)

theorem tile_at (v : FVec F S256x512 .f32) (w : Vec F S1x64x512 .f32) (o : ℕ) (h : S256x512.Slices ![o, 0] S64x512)
    (i : S256x512.Idx) (hb : (i 0).val = o + (i 0).val % 64) :
    addf (extractStridedSlice S64x512 ![o, 0] v h : FVec F S64x512 .f32) (shapeCast S64x512 w shapeCasts_S1x64x512_S64x512 : FVec F S64x512 .f32) (lowRow i)
      = addf v (fun i => shapeCast S64x512 w shapeCasts_S1x64x512_S64x512 (lowRow i)) i := by
  show FloatOps.addf _ _ = FloatOps.addf _ _
  congr 1
  show v _ = v i
  congr 1
  funext a
  apply Fin.ext
  fin_cases a
  · exact hb.symm
  · exact Nat.zero_add _

theorem addf_back (c : Dev nD) (v : FVec F S256x512 .f32) (i : S256x512.Idx) (w : Vec F S1x64x512 .f32) (h : backTile m ρ c ((i 0).val / 64) = w) :
    addf v (back m ρ c) i = addf v (fun i => shapeCast S64x512 w shapeCasts_S1x64x512_S64x512 (lowRow i)) i := by
  show FloatOps.addf _ _ = FloatOps.addf _ _
  unfold back
  rw [h]

/-- The four stores leave the result, whatever was there. -/
theorem stores_eq (c : Dev nD) (v X : FVec F S256x512 .f32) : o13 m ρ c v (o12 m ρ c v (o11 m ρ c v X)) = addf v (back m ρ c) := by
  funext i
  have hi : (i 0).val < 256 := (i 0).isLt
  have hl : ∀ o, (i 0).val = o + (i 0).val % 64 → (i 0).val = o + (lowRow i 0).val := fun _ h => h
  have hr : (i 1).val = (lowRow i 1).val := rfl
  have hc : ∀ b, b = 0 ∨ b = 1 ∨ b = 2 ∨ b = 3 → (i 0).val / 64 = b → o13 m ρ c v (o12 m ρ c v (o11 m ρ c v X)) i = addf v (back m ρ c) i := by
    intro b hb4 hb
    by_cases h : top c
    · unfold o13 o12 o11
      simp only [if_pos h]
      rcases hb4 with rfl | rfl | rfl | rfl
      · rw [(wr_apply 192 _ _ _ i).2 (by omega), (wr_apply 128 _ _ _ i).2 (by omega), (wr_apply 64 _ _ _ i).2 (by omega),
          (wr_apply 0 _ _ _ i).1 (lowRow i) (hl _ (by omega)) hr, addf_back m ρ c v i (cd0 m ρ c) (by unfold backTile; rw [if_pos h, hb]; rfl)]
        exact tile_at v _ 0 _ i (by omega)
      · rw [(wr_apply 192 _ _ _ i).2 (by omega), (wr_apply 128 _ _ _ i).2 (by omega),
          (wr_apply 64 _ _ _ i).1 (lowRow i) (hl _ (by omega)) hr, addf_back m ρ c v i (cd1 m ρ c) (by unfold backTile; rw [if_pos h, hb]; rfl)]
        exact tile_at v _ 64 _ i (by omega)
      · rw [(wr_apply 192 _ _ _ i).2 (by omega),
          (wr_apply 128 _ _ _ i).1 (lowRow i) (hl _ (by omega)) hr, addf_back m ρ c v i (cf0 m ρ c) (by unfold backTile; rw [if_pos h, hb]; rfl)]
        exact tile_at v _ 128 _ i (by omega)
      · rw [(wr_apply 192 _ _ _ i).1 (lowRow i) (hl _ (by omega)) hr, addf_back m ρ c v i (cf1 m ρ c) (by unfold backTile; rw [if_pos h, hb]; rfl)]
        exact tile_at v _ 192 _ i (by omega)
    · unfold o13 o12 o11
      simp only [if_neg h]
      rcases hb4 with rfl | rfl | rfl | rfl
      · rw [(wr_apply 64 _ _ _ i).2 (by omega),
          (wr_apply 0 _ _ _ i).1 (lowRow i) (hl _ (by omega)) hr, addf_back m ρ c v i (cf0 m ρ c) (by unfold backTile; rw [if_neg h, hb]; rfl)]
        exact tile_at v _ 0 _ i (by omega)
      · rw [(wr_apply 64 _ _ _ i).1 (lowRow i) (hl _ (by omega)) hr, addf_back m ρ c v i (cf1 m ρ c) (by unfold backTile; rw [if_neg h, hb]; rfl)]
        exact tile_at v _ 64 _ i (by omega)
      · rw [(wr_apply 64 _ _ _ i).2 (by omega), (wr_apply 0 _ _ _ i).2 (by omega), (wr_apply 192 _ _ _ i).2 (by omega),
          (wr_apply 128 _ _ _ i).1 (lowRow i) (hl _ (by omega)) hr, addf_back m ρ c v i (cd0 m ρ c) (by unfold backTile; rw [if_neg h, hb]; rfl)]
        exact tile_at v _ 128 _ i (by omega)
      · rw [(wr_apply 64 _ _ _ i).2 (by omega), (wr_apply 0 _ _ _ i).2 (by omega),
          (wr_apply 192 _ _ _ i).1 (lowRow i) (hl _ (by omega)) hr, addf_back m ρ c v i (cd1 m ρ c) (by unfold backTile; rw [if_neg h, hb]; rfl)]
        exact tile_at v _ 192 _ i (by omega)
  exact hc _ (by omega) rfl

/-! ## Closing the cells -/

variable (K : Dev nD × Fin 15 → ℕ)

theorem close_cell (c : Dev nD) (k : Fin 15) : iprop(ctx m ρ K ∗ at1 c k) ⊢ |={Set.univ}=> (semVal (kcell (c, k)) 0 : sProp 𝕄) := by
  iintro ⟨#HC, Hat⟩
  imod (Rounds.cell_close ER (rd m ρ) (κ := K (c, k)) (g := kcell (c, k)) (Set.mem_univ _) (fun h => h) (R := 0 + 1) (duties_later m ρ (kcell (c, k)))) $$ [Hat] with Hz
  · isplitr; · iapply (inv_at m ρ K (c, k)); iexact HC
    iexact Hat
  imodintro
  iexact Hz

theorem close_all (c : Dev nD) : iprop(ctx m ρ K ∗ bigSep Finset.univ (fun k : Fin 15 => at1 c k)) ⊢ |={Set.univ}=> (bigSep Finset.univ (fun k : Fin 15 => semVal (kcell (c, k)) 0) : sProp 𝕄) :=
  (bigSep_with_persistent (fun k _ => close_cell m ρ K c k)).trans (bigSep_fupd _ _)

theorem bigSep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_univ_eq_bigSepL [0, 1, 2, 3, 4, 5, 6, 7, 8, 9, 10, 11, 12, 13, 14] (by decide) (by decide)]; rfl

/-! ## The body -/

/-- What a device starts with: the tokens of the duties it pays, and the credits of the rounds it waits for. -/
def toks (c : Dev nD) : sProp 𝕄 :=
  iprop(tok (yp c) 0 ∗ dutyTok ER (kcell (xn c, 0)) 0 true ∗ tok (yp c) 8 ∗ tok (yp c) 9 ∗ tok (yp c) 10 ∗ tok (yp c) 11 ∗ tok (yp c) 12
    ∗ tok (xn c) 13 ∗ tok (xn c) 14 ∗ tok c 1 ∗ tok c 2 ∗ tok c 3 ∗ tok c 4 ∗ tok c 5 ∗ tok c 6 ∗ tok c 7)
def creds (c : Dev nD) : sProp 𝕄 := iprop(crd c 0 ∗ crd c 8 ∗ crd c 9 ∗ crd c 10 ∗ crd c 11 ∗ crd c 12 ∗ crd c 13 ∗ crd c 14)

/-- The scratch buffers, at contents nothing is known of. -/
def scratch (c : Dev nD) : sProp 𝕄 :=
  iprop(ownsAny c xsM fullShare ∗ ownsAny c xoM fullShare ∗ ownsAny c roM fullShare ∗ ownsAny c psM fullShare ∗ ownsAny c cdM fullShare ∗ ownsAny c cfM fullShare)

/-- The operands' blocks. -/
def operands (c : Dev nD) : sProp 𝕄 :=
  iprop(owns (c : Thread nD τ) xM fullShare (xst m ρ c) ∗ owns (c : Thread nD τ) rM fullShare (rst m ρ c)
    ∗ owns (c : Thread nD τ) w1M fullShare (w1st m ρ c) ∗ owns (c : Thread nD τ) w2M fullShare (w2st m ρ c))

/-- The body's instance in this call. -/
abbrev theBody : Prog (TpuEff nD τ sig (Elt F) Λ₀ .tc) PUnit :=
  cc0_body xM (Memref.isWhole_whole _) rM (Memref.isWhole_whole _) w1M (Memref.isWhole_whole _) w2M (Memref.isWhole_whole _) oM (Memref.isWhole_whole _)
    xsM (Memref.isWhole_whole _) xoM (Memref.isWhole_whole _) roM (Memref.isWhole_whole _) psM (Memref.isWhole_whole _) cdM (Memref.isWhole_whole _)
    cfM (Memref.isWhole_whole _) cc0_scratch6 cc0_scratch7 cc0_scratch8 cc0_scratch9 cc0_scratch10 cc0_scratch11 cc0_scratch12 cc0_scratch13

theorem ps1_eq (c : Dev nD) :
    k0_pay25 (k0_pay21 (xo1 m ρ c)) (k0_pay22 (k0_pay5 (rst m ρ c)) (ro m ρ c) (xo1 m ρ c)) k0_pay23 (k0_pay24 (xo1 m ρ c) (wA0 m ρ c))
      (wB0 m ρ c) (wA1 m ρ c) (wB1 m ρ c) = ps1 m ρ c := rfl
theorem mine_eq (c : Dev nD) :
    k0_pay26 (k0_pay3 (xst m ρ c))
    (k0_pay7 (k0_pay3 (xst m ρ c)) (ro m ρ c) (k0_pay6 (k0_pay3 (xst m ρ c)) (rst m ρ c)) (constant S256x2 .f32 0x00000000#32))
    (k0_pay8 (k0_pay3 (xst m ρ c)) (ro m ρ c) (k0_pay6 (k0_pay3 (xst m ρ c)) (rst m ρ c)) (constant S256x2 .f32 0x00000000#32) (wA0 m ρ c) (wB0 m ρ c))
    (wA1 m ρ c) (wB1 m ρ c) = mine m ρ c := rfl

theorem sound_body (c : Dev nD) (X : Vec F S256x512 .f32) :
    iprop(ctx m ρ K ∗ owing c (debts c) ∗ bigSep Finset.univ (fun k : Fin 15 => at0 c k) ∗ toks c ∗ creds c ∗ operands m ρ c
        ∗ owns (c : Thread nD τ) oM fullShare X ∗ scratch c)
      ⊢ WP (F := F) c theBody (fun _ => iprop(owing c [] ∗ bigSep Finset.univ (fun k : Fin 15 => semVal (kcell (c, k)) 0) ∗ operands m ρ c
          ∗ owns (c : Thread nD τ) oM fullShare (outAt m ρ c) ∗ scratch c)) := by
  rw [bigSep15]
  unfold toks creds operands scratch theBody
  rw [cc0_body_eq_skeleton]; unfold cc0_body_skel
  iintro ⟨#HC, HO, ⟨a0, a1, a2, a3, a4, a5, a6, a7, a8, a9, a10, a11, a12, a13, a14⟩,
    ⟨u0, ux0, u8, u9, u10, u11, u12, u13, u14, t1, t2, t3, t4, t5, t6, t7⟩, ⟨k0, k8, k9, k10, k11, k12, k13, k14⟩, ⟨Hx, Hr, Hw1, Hw2⟩, Hout, Hxs, Hxo, Hro, Hps, Hcd, Hcf⟩
  ihave Hxo := (two_split c xoM) $$ Hxo; icases Hxo with ⟨xo0, xo1⟩
  ihave Hps := (two_split c psM) $$ Hps; icases Hps with ⟨p0, p1⟩
  ihave Hcd := (two_split c cdM) $$ Hcd; icases Hcd with ⟨cd0, cd1⟩
  ihave Hcf := (two_split c cfM) $$ Hcf; icases Hcf with ⟨cf0, cf1⟩
  unfold WP; rw [wp_bind]
  iapply (part1_spec m ρ K c _)
  isplitr; · iexact HC
  isplitl [HO]; · iexact HO
  isplitl [u0]; · iexact u0
  isplitl [ux0]; · iexact ux0
  isplitl [xo0 xo1 Hro cd0 cd1]
  · unfold payY
    isplitl [xo0]; · iexact xo0
    isplitl [xo1]; · iexact xo1
    isplitl [Hro]; · iexact Hro
    isplitl [cd0]; · iexact cd0
    iexact cd1
  isplitl [cf0 cf1]
  · unfold payX
    isplitl [cf0]; · iexact cf0
    iexact cf1
  isplitl [k0]; · iexact k0
  isplitl [a0]; · iexact a0
  isplitl [Hx]; · iexact Hx
  isplitl [Hxs]; · iexact Hxs
  iintro %v5 %v6 %v7 ⟨HO, b0, HpY, HpX, Hx, Hxs⟩
  ihave HpY := (Entails.of_eq (show payY (F := F) (yp c) = iprop(ownsAny (yp c) (sl0 xoM) fullShare ∗ ownsAny (yp c) (sl1 xoM) fullShare ∗ ownsAny (yp c) roM fullShare
    ∗ ownsAny (yp c) (sl0 cdM) fullShare ∗ ownsAny (yp c) (sl1 cdM) fullShare) from rfl)) $$ HpY
  icases HpY with ⟨Hyx0, Hyx1, Hyr, yd0, yd1⟩
  ihave HpX := (Entails.of_eq (show payX (F := F) (xn c) = iprop(ownsAny (xn c) (sl0 cfM) fullShare ∗ ownsAny (xn c) (sl1 cfM) fullShare) from rfl)) $$ HpX
  icases HpX with ⟨xf0, xf1⟩
  ihave Hxs := (xs_split c (xs m ρ c)) $$ Hxs; icases Hxs with ⟨hs0, hs1⟩
  try dsimp only
  (try unfold WP); rw [wp_bind]
  iapply (part2_spec m ρ K c _ _ _ _)
  isplitr; · iexact HC
  isplitl [HO]; · iexact HO
  isplitl [hs0]; · iexact hs0
  isplitl [hs1]; · iexact hs1
  isplitl [Hr]; · iexact Hr
  isplitl [Hyx0]; · iexact Hyx0
  isplitl [Hyx1]; · iexact Hyx1
  isplitl [Hyr]; · iexact Hyr
  isplitl [t1]; · iexact t1
  isplitl [t2]; · iexact t2
  isplitl [t3]; · iexact t3
  isplitl [u8]; · iexact u8
  isplitl [u9]; · iexact u9
  isplitl [u10]; · iexact u10
  isplitl [k10]; · iexact k10
  isplitl [a3]; · iexact a3
  isplitl [a10]; · iexact a10
  iintro ⟨HO, Hr, Hro, k1, k2, b3, b10⟩
  try dsimp only
  (try unfold WP); rw [wp_bind]
  iapply (part3_spec m ρ K c _ _ _ _ _)
  isplitr; · iexact HC
  isplitl [Hw1]; · iexact Hw1
  isplitl [Hw2]; · iexact Hw2
  iintro ⟨Hw1, Hw2⟩
  try dsimp only
  (try unfold WP); rw [wp_bind]
  iapply (part4_spec m ρ K c _ _ _ _ _)
  isplitr; · iexact HC
  isplitl [HO]; · iexact HO
  isplitl [k1]; · iexact k1
  isplitl [a1]; · iexact a1
  isplitl [k8]; · iexact k8
  isplitl [a8]; · iexact a8
  iintro ⟨HO, b1, b8, hs0, xo0⟩
  try dsimp only
  (try unfold WP); rw [wp_bind]
  iapply (part5_spec m ρ K c _ _ _ _ _ _ _)
  isplitr; · iexact HC
  isplitl [Hw1]; · iexact Hw1
  isplitl [Hw2]; · iexact Hw2
  iintro ⟨Hw1, Hw2⟩
  try dsimp only
  (try unfold WP); rw [wp_bind]
  iapply (part6_spec m ρ K c _ _ _ rfl _)
  isplitr; · iexact HC
  isplitl [HO]; · iexact HO
  isplitl [p0]; · iexact p0
  isplitl [yd0]; · iexact yd0
  isplitl [t4]; · iexact t4
  isplitl [u11]; · iexact u11
  isplitl [k2]; · iexact k2
  isplitl [a2]; · iexact a2
  iintro ⟨HO, k4, hs1, b2⟩
  try dsimp only
  (try unfold WP); rw [wp_bind]
  iapply (part7_spec m ρ K c _ _ _)
  isplitr; · iexact HC
  isplitl [HO]; · iexact HO
  isplitl [k9]; · iexact k9
  isplitl [a9]; · iexact a9
  isplitl [Hw1]; · iexact Hw1
  iintro ⟨HO, b9, xo1, Hw1⟩
  try dsimp only
  (try unfold WP); rw [wp_bind]
  iapply (part8_spec m ρ K c _ _ _ _ _ _ _)
  isplitr; · iexact HC
  isplitl [Hw1]; · iexact Hw1
  isplitl [Hw2]; · iexact Hw2
  isplitl [p1]; · iexact p1
  iintro ⟨Hw1, Hw2, p1⟩
  try dsimp only
  (try unfold WP); rw [wp_bind]
  rw [ps1_eq]
  iapply (part9_spec m ρ K c _ _ _ _ _ _)
  isplitr; · iexact HC
  isplitl [HO]; · iexact HO
  isplitl [p1]; · iexact p1
  isplitl [yd1]; · iexact yd1
  isplitl [t5]; · iexact t5
  isplitl [u12]; · iexact u12
  isplitl [Hw1]; · iexact Hw1
  isplitl [Hw2]; · iexact Hw2
  isplitl [k4]; · iexact k4
  isplitl [a4]; · iexact a4
  iintro ⟨HO, k5, Hw1, Hw2, p0, b4⟩
  try dsimp only
  rw [mine_eq]
  (try unfold WP); rw [wp_bind]
  iapply (part10_spec m ρ K c _ _ _ _ _)
  isplitr; · iexact HC
  isplitl [HO]; · iexact HO
  isplitl [k11]; · iexact k11
  isplitl [a11]; · iexact a11
  isplitl [xf0]; · iexact xf0
  isplitl [t6]; · iexact t6
  isplitl [u13]; · iexact u13
  isplitl [k5]; · iexact k5
  isplitl [a5]; · iexact a5
  iintro ⟨HO, b11, d0L, k6, p1, b5⟩
  try dsimp only
  (try unfold WP); rw [wp_bind]
  iapply (part11_spec m ρ K c _ _ (mine m ρ c) X _)
  isplitr; · iexact HC
  isplitl [HO]; · iexact HO
  isplitl [k12]; · iexact k12
  isplitl [a12]; · iexact a12
  isplitl [xf1]; · iexact xf1
  isplitl [t7]; · iexact t7
  isplitl [u14]; · iexact u14
  isplitl [d0L]; · iexact d0L
  isplitl [Hout]; · iexact Hout
  iintro ⟨HO, b12, d0L, d1L, k7, Hout⟩
  try dsimp only
  (try unfold WP); rw [wp_bind]
  iapply (part12_spec m ρ K c _ _ (mine m ρ c) _ _)
  isplitr; · iexact HC
  isplitl [HO]; · iexact HO
  isplitl [k6]; · iexact k6
  isplitl [a6]; · iexact a6
  isplitl [k13]; · iexact k13
  isplitl [a13]; · iexact a13
  isplitl [k7]; · iexact k7
  isplitl [a7]; · iexact a7
  isplitl [Hout]; · iexact Hout
  iintro ⟨HO, b6, b13, b7, d0R, d1R, f0, Hout⟩
  try dsimp only
  simp only [Prog.lift, Prog.bind_op, Prog.bind_ret, Prog.pure_eq_ret]
  iapply (wait_dma m ρ K c 14 [] (fun _ h => absurd h List.not_mem_nil) (sem := e1 cc0_scratch11) (dst := sq (sl1 cfM)) rfl rfl) $$ [HO k14 a14]
  · isplitr; · iexact HC
    isplitl [k14]; · iexact k14
    isplitl [HO]; · iexact HO
    iexact a14
  iintro ⟨HO, b14, HR⟩
  ihave f1 := (Entails.of_eq (show rest m ρ c 14 = owns (c : Thread nD τ) (sl1 cfM) fullShare (cf1 m ρ c) from rfl)) $$ HR
  have fin : iprop(ctx m ρ K ∗ owing c [] ∗ owns (c : Thread nD τ) oM fullShare (o13 m ρ c (mine m ρ c) (o12 m ρ c (mine m ρ c) (o11 m ρ c (mine m ρ c) X)))
      ∗ owns (c : Thread nD τ) (sl1 cfM) fullShare (cf1 m ρ c)
      ∗ bigSep Finset.univ (fun k : Fin 15 => at1 c k)
      ∗ (owns (c : Thread nD τ) xM fullShare (xst m ρ c) ∗ owns (c : Thread nD τ) rM fullShare (rst m ρ c)
        ∗ owns (c : Thread nD τ) w1M fullShare (w1st m ρ c) ∗ owns (c : Thread nD τ) w2M fullShare (w2st m ρ c))
      ∗ ownsAny c hs0 fullShare ∗ ownsAny c hs1 fullShare ∗ owns (c : Thread nD τ) (sl0 xoM) fullShare (xo0 m ρ c) ∗ owns (c : Thread nD τ) (sl1 xoM) fullShare (xo1 m ρ c)
      ∗ owns (c : Thread nD τ) roM fullShare (ro m ρ c) ∗ ownsAny c (sl0 psM) fullShare ∗ ownsAny c (sl1 psM) fullShare
      ∗ owns (c : Thread nD τ) (sl0 cdM) fullShare.left (cd0 m ρ c) ∗ ownsAny c (sl0 cdM) fullShare.right
      ∗ owns (c : Thread nD τ) (sl1 cdM) fullShare.left (cd1 m ρ c) ∗ ownsAny c (sl1 cdM) fullShare.right
      ∗ owns (c : Thread nD τ) (sl0 cfM) fullShare (cf0 m ρ c))
      ⊢ |={Set.univ}=> iprop(owing c [] ∗ bigSep Finset.univ (fun k : Fin 15 => semVal (kcell (c, k)) 0)
        ∗ (owns (c : Thread nD τ) xM fullShare (xst m ρ c) ∗ owns (c : Thread nD τ) rM fullShare (rst m ρ c)
          ∗ owns (c : Thread nD τ) w1M fullShare (w1st m ρ c) ∗ owns (c : Thread nD τ) w2M fullShare (w2st m ρ c))
        ∗ owns (c : Thread nD τ) oM fullShare (outAt m ρ c)
        ∗ ownsAny c xsM fullShare ∗ ownsAny c xoM fullShare ∗ ownsAny c roM fullShare ∗ ownsAny c psM fullShare ∗ ownsAny c cdM fullShare ∗ ownsAny c cfM fullShare) := by
    rw [stores_eq]
    iintro ⟨#HC, HO, Hout, f1, Hat, Hin, hs0, hs1, xo0, xo1, Hro, p0, p1, d0L, d0R, d1L, d1R, f0⟩
    imod (close_all m ρ K c) $$ [Hat] with Hz
    · isplitr; · iexact HC
      iexact Hat
    imodintro
    isplitl [HO]; · iexact HO
    isplitl [Hz]; · iexact Hz
    isplitl [Hin]; · iexact Hin
    isplitl [Hout]; · iexact Hout
    isplitl [hs0 hs1]
    · iapply (xs_join c)
      isplitl [hs0]; · iexact hs0
      iexact hs1
    isplitl [xo0 xo1]
    · iapply (two_join c xoM)
      isplitl [xo0]
      · iapply (any_of c (sl0 xoM) fullShare _); iexact xo0
      · iapply (any_of c (sl1 xoM) fullShare _); iexact xo1
    isplitl [Hro]
    · iapply (any_of c roM fullShare _); iexact Hro
    isplitl [p0 p1]
    · iapply (two_join c psM)
      isplitl [p0]; · iexact p0
      iexact p1
    isplitl [d0L d0R d1L d1R]
    · iapply (two_join c cdM)
      isplitl [d0L d0R]
      · iapply (any_of c (sl0 cdM) fullShare (cd0 m ρ c))
        iapply (owns_rejoin (c : Thread nD τ) (sl0 cdM) fullShare (Φ := fun _ => True) (cd0 m ρ c))
        isplitl [d0L]; · iexact d0L
        iexact d0R
      · iapply (any_of c (sl1 cdM) fullShare (cd1 m ρ c))
        iapply (owns_rejoin (c : Thread nD τ) (sl1 cdM) fullShare (Φ := fun _ => True) (cd1 m ρ c))
        isplitl [d1L]; · iexact d1L
        iexact d1R
    · iapply (two_join c cfM)
      isplitl [f0]
      · iapply (any_of c (sl0 cfM) fullShare _); iexact f0
      · iapply (any_of c (sl1 cfM) fullShare _); iexact f1
  by_cases h : top c
  · simp only [dif_pos (cond0_top c h), dif_neg (cond1_top c h), if_pos (cond0_top c h), if_neg (cond1_top c h), Prog.bind_op, Prog.bind_ret, Prog.pure_eq_ret]
    iapply (load_step c (fun _ => rfl) fullShare (cf1 m ρ c)) $$ f1; iintro f1
    iapply (load_out c _) $$ Hout; iintro %_ Hout
    iapply (store_out c _) $$ Hout; iintro Hout
    unfold WP; rw [wp_ret]
    iapply fin
    isplitr; · iexact HC
    isplitl [HO]; · iexact HO
    isplitl [Hout]; · unfold o13; rw [if_pos h]; iexact Hout
    isplitl [f1]; · iexact f1
    isplitl [b0 b1 b2 b3 b4 b5 b6 b7 b8 b9 b10 b11 b12 b13 b14]
    · rw [bigSep15]
      isplitl [b0]; · iexact b0
      isplitl [b1]; · iexact b1
      isplitl [b2]; · iexact b2
      isplitl [b3]; · iexact b3
      isplitl [b4]; · iexact b4
      isplitl [b5]; · iexact b5
      isplitl [b6]; · iexact b6
      isplitl [b7]; · iexact b7
      isplitl [b8]; · iexact b8
      isplitl [b9]; · iexact b9
      isplitl [b10]; · iexact b10
      isplitl [b11]; · iexact b11
      isplitl [b12]; · iexact b12
      isplitl [b13]; · iexact b13
      iexact b14
    isplitl [Hx Hr Hw1 Hw2]
    · isplitl [Hx]; · iexact Hx
      isplitl [Hr]; · iexact Hr
      isplitl [Hw1]; · iexact Hw1
      iexact Hw2
    isplitl [hs0]; · iexact hs0
    isplitl [hs1]; · iexact hs1
    isplitl [xo0]; · iexact xo0
    isplitl [xo1]; · iexact xo1
    isplitl [Hro]; · iexact Hro
    isplitl [p0]; · iexact p0
    isplitl [p1]; · iexact p1
    isplitl [d0L]; · iexact d0L
    isplitl [d0R]; · iexact d0R
    isplitl [d1L]; · iexact d1L
    isplitl [d1R]; · iexact d1R
    iexact f0
  · simp only [dif_neg (cond0_bot c h), dif_pos (cond1_bot c h), if_neg (cond0_bot c h), if_pos (cond1_bot c h), Prog.bind_op, Prog.bind_ret, Prog.pure_eq_ret]
    iapply (load_step c (fun _ => rfl) fullShare (cf1 m ρ c)) $$ f1; iintro f1
    iapply (load_out c _) $$ Hout; iintro %_ Hout
    iapply (store_out c _) $$ Hout; iintro Hout
    unfold WP; rw [wp_ret]
    iapply fin
    isplitr; · iexact HC
    isplitl [HO]; · iexact HO
    isplitl [Hout]; · unfold o13; rw [if_neg h]; iexact Hout
    isplitl [f1]; · iexact f1
    isplitl [b0 b1 b2 b3 b4 b5 b6 b7 b8 b9 b10 b11 b12 b13 b14]
    · rw [bigSep15]
      isplitl [b0]; · iexact b0
      isplitl [b1]; · iexact b1
      isplitl [b2]; · iexact b2
      isplitl [b3]; · iexact b3
      isplitl [b4]; · iexact b4
      isplitl [b5]; · iexact b5
      isplitl [b6]; · iexact b6
      isplitl [b7]; · iexact b7
      isplitl [b8]; · iexact b8
      isplitl [b9]; · iexact b9
      isplitl [b10]; · iexact b10
      isplitl [b11]; · iexact b11
      isplitl [b12]; · iexact b12
      isplitl [b13]; · iexact b13
      iexact b14
    isplitl [Hx Hr Hw1 Hw2]
    · isplitl [Hx]; · iexact Hx
      isplitl [Hr]; · iexact Hr
      isplitl [Hw1]; · iexact Hw1
      iexact Hw2
    isplitl [hs0]; · iexact hs0
    isplitl [hs1]; · iexact hs1
    isplitl [xo0]; · iexact xo0
    isplitl [xo1]; · iexact xo1
    isplitl [Hro]; · iexact Hro
    isplitl [p0]; · iexact p0
    isplitl [p1]; · iexact p1
    isplitl [d0L]; · iexact d0L
    isplitl [d0R]; · iexact d0R
    isplitl [d1L]; · iexact d1L
    isplitl [d1R]; · iexact d1R
    iexact f0

end Cert.Exchange

end
-- ==== Proof.Launch.lean ====
/-
# The run

The protocol's ghost state is dealt at launch, each device runs its body, and the final memory holds each device's
result at `outAt`, the operands as they were.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from. -/
def start (c : Dev nD) : sProp 𝕄 :=
  iprop(∃ K, ctx m ρ K ∗ bigSep Finset.univ (fun k : Fin 15 => at0 c k) ∗ toks c ∗ creds c)

def Φ₀ (c : Dev nD) : sProp 𝕄 := iprop(start m ρ c ∗ scratch c)
def Φ₁ (c : Dev nD) : sProp 𝕄 := iprop(bigSep Finset.univ (fun k : Fin 15 => semVal (kcell (c, k)) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rst m ρ c
    | ⟨2, _⟩ => w1st m ρ c
    | ⟨3, _⟩ => w2st m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

def t₀ : Fin cfg0.N := t0_0
theorem fin_N (t : Fin cfg0.N) : t = t₀ := fin_N0 t

theorem before_0 (c : Dev nD) (d) : (dats m ρ 0 c).before (0 : Fin 5) t₀ d = xst m ρ c := by unfold Dat.before; rw [if_pos (by rfl)]; rfl
theorem before_1 (c : Dev nD) (d) : (dats m ρ 0 c).before (1 : Fin 5) t₀ d = rst m ρ c := by unfold Dat.before; rw [if_pos (by rfl)]; rfl
theorem before_2 (c : Dev nD) (d) : (dats m ρ 0 c).before (2 : Fin 5) t₀ d = w1st m ρ c := by unfold Dat.before; rw [if_pos (by rfl)]; rfl
theorem before_3 (c : Dev nD) (d) : (dats m ρ 0 c).before (3 : Fin 5) t₀ d = w2st m ρ c := by unfold Dat.before; rw [if_pos (by rfl)]; rfl

abbrev stgOwn (c : Dev nD) {s : Shape} (M : Memref sig .tc .vmem s .f32) (X : s.Idx → Elt F .f32) : sProp 𝕄 := owns (c : Thread nD τ) M fullShare X

set_option maxRecDepth 4000 in
def bodyPre (c : Dev nD) : sProp 𝕄 :=
  iprop(Φ₀ m ρ c ∗ (dats m ρ 0 c).owesAt () t₀.castSucc
    ∗ (∃ d, stgOwn c xM ((dats m ρ 0 c).before (0 : Fin 5) t₀ d))
    ∗ (∃ d, stgOwn c rM ((dats m ρ 0 c).before (1 : Fin 5) t₀ d))
    ∗ (∃ d, stgOwn c w1M ((dats m ρ 0 c).before (2 : Fin 5) t₀ d))
    ∗ (∃ d, stgOwn c w2M ((dats m ρ 0 c).before (3 : Fin 5) t₀ d))
    ∗ (∃ d, stgOwn c oM ((dats m ρ 0 c).before (4 : Fin 5) t₀ d)))

def bodyPost (c : Dev nD) : sProp 𝕄 :=
  iprop(Φ₁ c ∗ (dats m ρ 0 c).owesAt () t₀.succ ∗ stgOwn c xM (xst m ρ c) ∗ stgOwn c rM (rst m ρ c)
    ∗ stgOwn c w1M (w1st m ρ c) ∗ stgOwn c w2M (w2st m ρ c) ∗ stgOwn c oM (outAt m ρ c))

set_option maxRecDepth 4000 in
theorem post_of (c : Dev nD) :
    iprop(owing c [] ∗ bigSep Finset.univ (fun k : Fin 15 => semVal (kcell (c, k)) 0) ∗ operands m ρ c
      ∗ owns (c : Thread nD τ) oM fullShare (outAt m ρ c) ∗ scratch c) ⊢ bodyPost m ρ c := by
  unfold owing operands bodyPost Φ₁ Dat.owesAt Pipeline.owesWithin
  rw [show (dats m ρ 0 c).owed t₀.succ = 0 from rfl]
  iintro ⟨⟨%W, HO⟩, Hz, ⟨H0, H1, H2, H3⟩, Hout, Hscr⟩
  isplitl [Hz Hscr]
  · isplitl [Hz]; · iexact Hz
    iexact Hscr
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  show bodyPre m ρ c ⊢ WP c theBody (fun _ => bodyPost m ρ c)
  unfold bodyPre Φ₀ start Dat.owesAt Pipeline.owesWithin
  rw [show (dats m ρ 0 c).owed t₀.castSucc = O₀ c from rfl]
  iintro ⟨⟨⟨%K, #HC, Hat, Ht, Hc⟩, Hscr⟩, ⟨%W, %hW, HO⟩, ⟨%d0, H0⟩, ⟨%d1, H1⟩, ⟨%d2, H2⟩, ⟨%d3, H3⟩, ⟨%d4, H4⟩⟩
  rw [before_0, before_1, before_2, before_3]
  iapply (wp_wand frame (wpE (defs₀ (F := F)) 𝒱₀ (c : Thread nD τ) none) Set.univ) $$ [HO Hat Ht Hc H0 H1 H2 H3 H4 Hscr]
  · iapply (sound_body m ρ K c _)
    isplitr; · iexact HC
    isplitl [HO]
    · unfold owing; iexists W; iexact HO
    isplitl [Hat]; · iexact Hat
    isplitl [Ht]; · iexact Ht
    isplitl [Hc]; · iexact Hc
    isplitl [H0 H1 H2 H3]
    · unfold operands
      isplitl [H0]; · iexact H0
      isplitl [H1]; · iexact H1
      isplitl [H2]; · iexact H2
      iexact H3
    isplitl [H4]; · iexact H4
    iexact Hscr
  · iintro %_ H
    iapply (post_of m ρ c); iexact H

/-! ## The launch -/

/-- The kernel's own semaphores: every cell's but the barrier's. -/
abbrev osem : Fin 14 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells: one a cell, and the barrier's second. -/
def tk (j : Fin 16) : Fin 15 × Bool := if h : j.val < 15 then (⟨j.val, h⟩, false) else (0, true)
theorem tk_injective : Function.Injective tk := by decide
def tokOf (cj : Dev nD × Fin 16) : GSem nD τ sig × ℕ × Bool := (kcell (cj.1, (tk cj.2).1), 0, (tk cj.2).2)
theorem tokOf_injective : Function.Injective (tokOf : Dev nD × Fin 16 → GSem nD τ sig × ℕ × Bool) := by
  rintro ⟨c, j⟩ ⟨c', j'⟩ h
  have h1 := kcell_injective (congrArg Prod.fst h)
  have h2 : (tk j).2 = (tk j').2 := congrArg (fun x : GSem nD τ sig × ℕ × Bool => x.2.2) h
  have h3 : c = c' := congrArg Prod.fst h1
  have h4 : (tk j).1 = (tk j').1 := congrArg Prod.snd h1
  rw [h3, tk_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def ownToks (c : Dev nD) : sProp 𝕄 :=
  iprop(tok c 0 ∗ tok c 1 ∗ tok c 2 ∗ tok c 3 ∗ tok c 4 ∗ tok c 5 ∗ tok c 6 ∗ tok c 7 ∗ tok c 8 ∗ tok c 9 ∗ tok c 10 ∗ tok c 11 ∗ tok c 12 ∗ tok c 13 ∗ tok c 14
    ∗ dutyTok ER (kcell (c, 0)) 0 true)

/-- What the launch deals device `c`. -/
def G (c : Dev nD) : sProp 𝕄 :=
  iprop((bigSep Finset.univ fun k : Fin 15 => roundState ER (rd m ρ) (kcell (c, k)) 0)
    ∗ (bigSep Finset.univ fun k : Fin 15 => iprop(at0 c k ∗ reached ER (kcell (c, k)) 0)) ∗ ownToks c)

def records (K : Dev nD × Fin 15 → ℕ) : sProp 𝕄 :=
  iprop((bigSep Finset.univ fun ck : Dev nD × Fin 15 => cellInv ER (rd m ρ) (K ck) (kcell ck))
    ∗ bigSep Finset.univ fun ck : Dev nD × Fin 15 => reached ER (kcell ck) 0)

instance records_persistent (K : Dev nD × Fin 15 → ℕ) : BI.Persistent (records (F := F) m ρ K) := by unfold records; infer_instance

def linear (c : Dev nD) : sProp 𝕄 := iprop(bigSep Finset.univ (fun k : Fin 15 => at0 c k) ∗ toks c)

/-- What the global step makes of it. -/
def G' (c : Dev nD) : sProp 𝕄 := iprop(∃ K, records m ρ K ∗ linear c)

theorem bigSep16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep16]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
      ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0
      ∗ semVal (kcell (c, 13)) 0 ∗ semVal (kcell (c, 14)) 0) := by
  rw [Pipeline.ownSems0_eq_of_list c osem [0, 1, 2, 3, 4, 5, 6, 7, 8, 9, 10, 11, 12, 13] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 15 => semVal (kcell (c, k)) 0 : sProp 𝕄) := by
  rw [ownSems0_eq, unscopedSems0_eq, bigSep15]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(at0 c k ∗ reached ER (kcell (c, k)) 0)) ∗ ownToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 15 => semVal (kcell (c, k)) 0) ∗ bigSep Finset.univ fun k : Fin 15 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to who pays: a cell's token to the neighbour that writes there, the barrier's two to the two neighbours. -/
theorem toks_dealt : (bigSep Finset.univ fun c : Dev nD => (ownToks c : sProp 𝕄)) ⊢ bigSep Finset.univ fun c : Dev nD => toks c := by
  unfold ownToks toks
  simp only [bigSep_sep']
  rw [bigSep_univ_equiv ypE (fun c : Dev nD => (tok c 0 : sProp 𝕄)), bigSep_univ_equiv xnE (fun c : Dev nD => (dutyTok ER (kcell (c, 0)) 0 true : sProp 𝕄)),
    bigSep_univ_equiv ypE (fun c : Dev nD => (tok c 8 : sProp 𝕄)), bigSep_univ_equiv ypE (fun c : Dev nD => (tok c 9 : sProp 𝕄)),
    bigSep_univ_equiv ypE (fun c : Dev nD => (tok c 10 : sProp 𝕄)), bigSep_univ_equiv ypE (fun c : Dev nD => (tok c 11 : sProp 𝕄)),
    bigSep_univ_equiv ypE (fun c : Dev nD => (tok c 12 : sProp 𝕄)), bigSep_univ_equiv xnE (fun c : Dev nD => (tok c 13 : sProp 𝕄)),
    bigSep_univ_equiv xnE (fun c : Dev nD => (tok c 14 : sProp 𝕄))]
  iintro ⟨h0, h1, h2, h3, h4, h5, h6, h7, h8, h9, h10, h11, h12, h13, h14, h15⟩
  isplitl [h0]; · iexact h0
  isplitl [h15]; · iexact h15
  isplitl [h8]; · iexact h8
  isplitl [h9]; · iexact h9
  isplitl [h10]; · iexact h10
  isplitl [h11]; · iexact h11
  isplitl [h12]; · iexact h12
  isplitl [h13]; · iexact h13
  isplitl [h14]; · iexact h14
  isplitl [h1]; · iexact h1
  isplitl [h2]; · iexact h2
  isplitl [h3]; · iexact h3
  isplitl [h4]; · iexact h4
  isplitl [h5]; · iexact h5
  isplitl [h6]; · iexact h6
  iexact h7

theorem ghost_intro (K : Dev nD × Fin 15 → ℕ) (c : Dev nD) : iprop(records m ρ K ∗ linear c) ⊢ G' (F := F) m ρ c := by
  unfold G'; iintro H; iexists K; iexact H

theorem regroup :
    (bigSep Finset.univ fun c : Dev nD => iprop((bigSep Finset.univ fun k => iprop(∃ κ : ℕ, cellInv ER (rd m ρ) κ (kcell (c, k))))
          ∗ (bigSep Finset.univ fun k => iprop(at0 c k ∗ reached ER (kcell (c, k)) 0)) ∗ ownToks c) : sProp 𝕄)
      ⊢ bigSep Finset.univ (G' m ρ) := by
  rw [bigSep_sep', bigSep_sep', ← bigSep_univ_prod (fun ck : Dev nD × Fin 15 => iprop(∃ κ : ℕ, cellInv ER (rd m ρ) κ (kcell ck))),
    bigSep_congr (s := Finset.univ) (fun (c : Dev nD) _ => bigSep_sep' Finset.univ (fun k : Fin 15 => (at0 c k : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (rd m ρ) κ (kcell ck) : sProp 𝕄))) $$ HI
  icases HK with ⟨%K, #HI⟩
  ihave Htk := (toks_dealt (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 15 => (at0 c k : sProp 𝕄)) toks).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owed_count : ∀ (c : Dev nD) (k : Fin 15), k = 0 ∨ 8 ≤ k → (∑ d : Dev nD, (debts d).count (c, k)) = if k = 0 then 2 else 1 := by decide

theorem launch_cell (c : Dev nD) (k : Fin 15) (hk : k = 0 ∨ 8 ≤ k) :
    tallyOn (kcell (c, k)) (launchCredit (Pipeline.owing O₀) 0 (kcell (c, k))) = (tallyAt (kcell (c, k)) () (tot k) : CellTallies nD τ sig Unit) := by
  unfold tallyAt; refine congrArg _ (Finsupp.ext fun u => ?_); cases u
  rw [Pipeline.launchCredit_owing, Finsupp.single_eq_same]
  show ∑ d, Osum (debts d) (kcell (c, k)) () = tot k
  rw [Finset.sum_congr rfl fun d _ => Osum_apply (debts d) (c, k), ← Finset.sum_mul, owed_count c k hk]
  unfold tot
  by_cases h : k = 0
  · subst h; rfl
  · rw [if_neg h, if_neg h, Nat.one_mul]

theorem creds_intro (c : Dev nD) : (Pipeline.launchCred O₀ c : sProp 𝕄) ⊢ creds c := by
  have e : (bigSep (Finset.univ.map (⟨csem, csem_inj⟩ : Fin 15 ↪ SemLoc sig)) fun sm => (cred (tallyOn ((c : Thread nD τ), sm) (launchCredit (Pipeline.owing O₀) 0 ((c : Thread nD τ), sm))) : sProp 𝕄))
      = bigSep Finset.univ fun k : Fin 15 => cred (tallyOn (kcell (c, k)) (launchCredit (Pipeline.owing O₀) 0 (kcell (c, k)))) := bigSep_map _
  unfold Pipeline.launchCred creds
  refine (bigSep_subset (Finset.subset_univ (Finset.univ.map (⟨csem, csem_inj⟩ : Fin 15 ↪ SemLoc sig)))).trans ?_
  refine (Entails.of_eq e).trans ?_
  rw [bigSep15, launch_cell c 0 (by decide), launch_cell c 8 (by decide), launch_cell c 9 (by decide), launch_cell c 10 (by decide), launch_cell c 11 (by decide),
    launch_cell c 12 (by decide), launch_cell c 13 (by decide), launch_cell c 14 (by decide)]
  iintro ⟨h0, -, -, -, -, -, -, -, h8, h9, h10, h11, h12, h13, h14⟩
  isplitl [h0]; · iexact h0
  isplitl [h8]; · iexact h8
  isplitl [h9]; · iexact h9
  isplitl [h10]; · iexact h10
  isplitl [h11]; · iexact h11
  isplitl [h12]; · iexact h12
  isplitl [h13]; · iexact h13
  iexact h14

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records linear start ctx
  iintro ⟨-, #Hlev, Hcr, -, ⟨%K, ⟨#HI, #HR⟩, Hat, Ht⟩⟩
  ihave Hc := (creds_intro (F := F) c) $$ Hcr
  imodintro
  isplitl
  · iexists K
    isplitr
    · isplitr; · iexact HI
      isplitr; · iexact HR
      iexact Hlev
    isplitl [Hat]; · iexact Hat
    isplitl [Ht]; · iexact Ht
    iexact Hc
  · iempintro

/-- A scratch buffer whole, at contents nothing is known of. -/
theorem any_whole (c : Dev nD) (b : Ref sig .tc) :
    (ownsSat (c : Thread nD τ) (Memref.whole b) fullShare (fun _ => True) : sProp 𝕄) = iprop(∃ f : Buf (Elt F) ((c : Thread nD τ).loc b), ((c : Thread nD τ).loc b) ↦{fullShare} f) := by
  unfold ownsSat
  simp only [Memref.view_whole, View.set_whole]
  have h1 : iprop(∃ f : Buf (Elt F) ((c : Thread nD τ).loc b), ⌜True⌝ ∗ (((c : Thread nD τ).loc b) ↦{fullShare} f))
      ⊢ (iprop(∃ f : Buf (Elt F) ((c : Thread nD τ).loc b), ((c : Thread nD τ).loc b) ↦{fullShare} f) : sProp 𝕄) := by
    iintro ⟨%f, -, H⟩
    iexists f; iexact H
  have h2 : (iprop(∃ f : Buf (Elt F) ((c : Thread nD τ).loc b), ((c : Thread nD τ).loc b) ↦{fullShare} f) : sProp 𝕄)
      ⊢ iprop(∃ f : Buf (Elt F) ((c : Thread nD τ).loc b), ⌜True⌝ ∗ (((c : Thread nD τ).loc b) ↦{fullShare} f)) := by
    iintro ⟨%f, H⟩
    iexists f
    isplitr
    · ipureintro; trivial
    · iexact H
  exact equiv_iff.mp ⟨h1, h2⟩

theorem scratch_eq (c : Dev nD) : (scratch c : sProp 𝕄) = Pipeline.scopedRest spec0 c := by
  rw [scopedRest0_eq, ← any_whole, ← any_whole, ← any_whole, ← any_whole, ← any_whole, ← any_whole]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  rw [scratch_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq, scratch_eq]
  iintro ⟨⟨HB, HS⟩, Hr⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the four devices
    terminates, each result array at `finalA`, every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin 5) (hw : w ≠ 4) : finalA m ρ c w = (s₀ m ρ).mem ((cfg0.win w).arr.view.loc (c : Thread nD τ)) := by
  fin_cases w <;> first | exact absurd rfl hw | exact (dats (F := F) m ρ 0 c).arrAt_in _ rfl _

end Cert.Exchange

end
-- ==== Proof.Frames.lean ====
/-
# The frames

The three programs run to the end, leave their operands as they were and every counter at zero.  The two readings of
the kernel have the same text, so the run written for any float values serves both.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 10000

noncomputable section

namespace Cert.Exchange

open Cert.KernelIdeal Cert.KernelIdeal.Gen
open Idealize.ShloMosaic Idealize.ShloMosaic.TcCoe Idealize.SL.Sem

/-- For any float values: the run ends, the operands as they were, the counters at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c (0 : Fin 5)).trans (finalA_in m ρ c 0 (by decide)), (h.1 c (1 : Fin 5)).trans (finalA_in m ρ c 1 (by decide)),
        (h.1 c (2 : Fin 5)).trans (finalA_in m ρ c 2 (by decide)), (h.1 c (3 : Fin 5)).trans (finalA_in m ρ c 3 (by decide))⟩, h.2⟩)
    (run_main m ρ)

/-- The ideal kernel's frame. -/
theorem frame_kernelIdeal : Cert.quiescent_KernelIdeal := fun m ρ _ => frame_any (F := Ideal) m ρ

/-- The two readings of the body table are one at the machine words. -/
theorem body_eq : (Cert.Kernel.defs₀ (F := Bits)) = defs₀ (F := Bits) := by
  unfold Cert.Kernel.defs₀ defs₀
  refine congrArg Defs.onTc (funext fun l => funext fun ts => ?_)
  obtain ⟨l, hl⟩ := l
  cases l with
  | zero => rfl
  | succ n => exact absurd hl (by omega)

theorem defs_eq : (Cert.Kernel.defs (F := Bits)) = defs (F := Bits) := congrArg (Pipeline.defs (pcfgs (F := Bits))) body_eq

/-- The kernel's frame. -/
theorem frame_kernel : Cert.quiescent_Kernel := fun m ρ _ =>
  (congrFun (congrArg (fun d => (θ_run (d : Defs nD τ sig (Elt Bits) _) (onTc (τ := τ) (main (F := Bits))) ⟨m, fun _ => 0, ρ⟩).1) defs_eq) _).mpr
    (frame_any (F := Bits) m ρ)

/-- The ideal reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Terms.lean ====
module

public import proofs.«01_k».proof.Proof.Protocol
public import Idealize.ShloMosaic.Lib.Pointwise

/-!
# The kernel's arithmetic at an index

Each tile a device computes is read at an index, over the extended reals: a row of `x` run through two experts, each
result scaled by the weight that the row's four scores give that expert.
-/

@[expose] public section
set_option maxRecDepth 16384
noncomputable section
namespace Cert.Exchange

open Cert.KernelIdeal Cert.KernelIdeal.Gen
open Idealize.ShloMosaic

/-- The value the maxima start from. -/
def lowest : EReal := Ideal.ofBits FTy.f32 4286578688#32
/-- The largest of the four scores. -/
def top1 (g : Fin 4 → EReal) : EReal := Finset.univ.fold max lowest g
/-- The scores with every largest one replaced by the starting value. -/
def withoutTop (g : Fin 4 → EReal) : Fin 4 → EReal := fun e => if top1 g ≤ g e then lowest else g e
/-- A condition as the number zero or one, by the casts the kernel uses. -/
def flag (p : Prop) [Decidable p] : EReal := FloatOps.sitofp (F := Ideal) FTy.f32 (BitVec.setWidth 32 (BitVec.ofBool (decide p)))
/-- The exponential of the second largest score less the largest. -/
def gap (g : Fin 4 → EReal) : EReal := Ideal.exp (top1 (withoutTop g) - top1 g)
/-- The weight the kernel gives the expert at position `l` among four scores. -/
def kw (g : Fin 4 → EReal) (l : Fin 4) : EReal :=
  Ideal.div 1 (1 + gap g) * flag (top1 g ≤ g l) + Ideal.div (gap g) (1 + gap g) * flag (top1 (withoutTop g) ≤ withoutTop g l)
/-- The device's own two scores, then the other device's two. -/
def pairs (a b : Fin 2 → EReal) : Fin 4 → EReal := fun e => if h : e.val < 2 then a ⟨e.val, h⟩ else b ⟨e.val - 2, by omega⟩
/-- One expert on one row, at output column `j`. -/
def expt (xr : Fin 512 → EReal) (w1 : Fin 512 → Fin 1024 → EReal) (w2 : Fin 1024 → Fin 512 → EReal) (j : Fin 512) : EReal :=
  ∑ k, max (∑ d, xr d * w1 d k) 0 * w2 k j
/-- The score of one row against one column of a router block. -/
def score (xr : Fin 512 → EReal) (r : Fin 512 → Fin 2 → EReal) (l : Fin 2) : EReal := ∑ d, xr d * r d l

theorem pay3_ix (v15) (r : Fin 256) (l : Fin 512) : k0_pay3 (F := Ideal) v15 (ix2 r l) = v15 (ix2 r l) := by
  pointwise [k0_pay3]

theorem pay5_ix (v15) (r : Fin 512) (l : Fin 2) : k0_pay5 (F := Ideal) v15 (ix2 r l) = v15 (ix2 r l) := by
  pointwise [k0_pay5]

theorem pay6_ix (v15 v54) (r : Fin 256) (l : Fin 2) : k0_pay6 (F := Ideal) v15 v54 (ix2 r l) = score (fun d => v15 (ix2 r d)) (fun d l => v54 (ix2 d l)) l := by
  pointwise [k0_pay6, k0_pay5]
  rfl

theorem pay7_ix (v16 v56 v57) (r : Fin 256) (l : Fin 4) : k0_pay7 (F := Ideal) v16 v56 v57 (constant S256x2 .f32 0x00000000#32) (ix2 r l)
    = kw (pairs (fun l => v57 (ix2 r l)) (score (fun d => v16 (ix2 r d)) (fun d l => v56 (ix2 d l)))) l := by
  pointwise [k0_pay7]
  rfl

theorem pay8_ix (v16 v56 v57 cst v88 v93) (r : Fin 256) (l : Fin 512) : k0_pay8 (F := Ideal) v16 v56 v57 cst v88 v93 (ix2 r l)
   = expt (fun d => v16 (ix2 r d)) (fun d k => v88 (ix3 0 d k)) (fun k j => v93 (ix3 0 k j)) l * k0_pay7 v16 v56 v57 cst (ix2 r 0) := by
  pointwise [k0_pay8]
  rfl

theorem pay26_ix (v16 v87 v98 v273 v278) (r : Fin 256) (l : Fin 512) : k0_pay26 (F := Ideal) v16 v87 v98 v273 v278 (ix2 r l)
   = v98 (ix2 r l) + expt (fun d => v16 (ix2 r d)) (fun d k => v273 (ix3 0 d k)) (fun k j => v278 (ix3 0 k j)) l * v87 (ix2 r 1) := by
  pointwise [k0_pay26]
  rfl

theorem pay10_ix (v55 v56 v113) (r : Fin 64) (l : Fin 4) : k0_pay10 (F := Ideal) v55 v56 v113 (ix2 r l)
    = pairs (score (fun d => v113 (ix3 0 r d)) (fun d l => v55 (ix2 d l))) (score (fun d => v113 (ix3 0 r d)) (fun d l => v56 (ix2 d l))) l := by
  pointwise [k0_pay10, k0_pay9]
  rfl

theorem pay11_ix (v55 v56 v113) (r : Fin 64) (l : Fin 1) : k0_pay11 (F := Ideal) v55 v56 v113 (ix2 r l)
    = top1 (fun e => k0_pay10 (F := Ideal) v55 v56 v113 (ix2 r e)) := by
  pointwise [k0_pay11]
  rfl

theorem pay12_ix (v55 v56 v113) (r : Fin 64) (l : Fin 4) : k0_pay12 (F := Ideal) v55 v56 v113 (ix2 r l)
    = BitVec.ofBool (decide (top1 (fun e => k0_pay10 (F := Ideal) v55 v56 v113 (ix2 r e)) ≤ k0_pay10 (F := Ideal) v55 v56 v113 (ix2 r l))) := by
  pointwise [k0_pay12]
  rw [pay11_ix]

theorem pay13_ix (v55 v56 v113) (r : Fin 64) (l : Fin 4) : k0_pay13 (F := Ideal) v55 v56 v113 (ix2 r l)
    = withoutTop (fun e => k0_pay10 (F := Ideal) v55 v56 v113 (ix2 r e)) l := by
  pointwise [k0_pay13]
  rw [pay12_ix]
  pointwise [withoutTop]
  rfl

theorem pay14_ix (v55 v56 v113) (r : Fin 64) (l : Fin 1) : k0_pay14 (F := Ideal) v55 v56 v113 (ix2 r l)
    = top1 (fun e => k0_pay13 (F := Ideal) v55 v56 v113 (ix2 r e)) := by
  pointwise [k0_pay14]
  rfl

theorem pay15_ix (v55 v56 v113) (r : Fin 64) (l : Fin 4) : k0_pay15 (F := Ideal) v55 v56 v113 (ix2 r l)
    = BitVec.ofBool (decide (k0_pay14 (F := Ideal) v55 v56 v113 (ix2 r 0) ≤ k0_pay13 (F := Ideal) v55 v56 v113 (ix2 r l))) := by
  pointwise [k0_pay15]

theorem pay16_ix (v55 v56 v113) (r : Fin 64) (l : Fin 1) : k0_pay16 (F := Ideal) v55 v56 v113 (ix2 r l)
    = Ideal.exp (k0_pay14 (F := Ideal) v55 v56 v113 (ix2 r l) - k0_pay11 (F := Ideal) v55 v56 v113 (ix2 r l)) := by
  pointwise [k0_pay16]

theorem pay17_ix (v55 v56 v113) (r : Fin 64) (l : Fin 1) : k0_pay17 (F := Ideal) v55 v56 v113 (ix2 r l)
    = 1 + k0_pay16 (F := Ideal) v55 v56 v113 (ix2 r l) := by
  pointwise [k0_pay17]

theorem pay18_ix (r : Fin 64) (l : Fin 1) : k0_pay18 (F := Ideal) (ix2 r l) = 1 := by
  pointwise [k0_pay18]

theorem pay20_ix (v113 v121 v127 v129 v131 v132 v147 v152 v159 v164) (r : Fin 64) (l : Fin 512) : k0_pay20 (k0_pay19 (F := Ideal) (k0_pay9 v113) v121 v127 v129 v131 v132 v147 v152 v159 v164) (ix3 0 r l)
    = expt (fun d => v113 (ix3 0 r d)) (fun d k => v147 (ix3 0 d k)) (fun k j => v152 (ix3 0 k j)) l
        * (Ideal.div (v132 (ix2 r 0)) (v131 (ix2 r 0)) * FloatOps.sitofp (F := Ideal) FTy.f32 (BitVec.setWidth 32 (v121 (ix2 r 0)))
          + Ideal.div (v129 (ix2 r 0)) (1 + v129 (ix2 r 0)) * FloatOps.sitofp (F := Ideal) FTy.f32 (BitVec.setWidth 32 (v127 (ix2 r 0))))
      + expt (fun d => v113 (ix3 0 r d)) (fun d k => v159 (ix3 0 d k)) (fun k j => v164 (ix3 0 k j)) l
        * (Ideal.div (v132 (ix2 r 0)) (v131 (ix2 r 0)) * FloatOps.sitofp (F := Ideal) FTy.f32 (BitVec.setWidth 32 (v121 (ix2 r 1)))
          + Ideal.div (v129 (ix2 r 0)) (1 + v129 (ix2 r 0)) * FloatOps.sitofp (F := Ideal) FTy.f32 (BitVec.setWidth 32 (v127 (ix2 r 1)))) := by
  pointwise [k0_pay20, k0_pay19, k0_pay9]
  rfl
/-- The weighted sum of two experts on one row, the scores being against the router block `a` and then `b`. -/
def terms (xr : Fin 512 → EReal) (a b : Fin 512 → Fin 2 → EReal) (A0 A1 : Fin 512 → Fin 1024 → EReal) (B0 B1 : Fin 1024 → Fin 512 → EReal) (j : Fin 512) : EReal :=
  expt xr A0 B0 j * kw (pairs (score xr a) (score xr b)) 0 + expt xr A1 B1 j * kw (pairs (score xr a) (score xr b)) 1

/-- The first tile a device computes for its neighbour, at an index. -/
theorem first_tile (v55 v56 v113 a0 b0 a1 b1) (r : Fin 64) (j : Fin 512) :
    k0_pay20 (k0_pay19 (F := Ideal) (k0_pay9 v113) (k0_pay12 v55 v56 v113) (k0_pay15 v55 v56 v113) (k0_pay16 v55 v56 v113)
      (k0_pay17 v55 v56 v113) k0_pay18 a0 b0 a1 b1) (ix3 0 r j)
    = terms (fun d => v113 (ix3 0 r d)) (fun d l => v55 (ix2 d l)) (fun d l => v56 (ix2 d l)) (fun d k => a0 (ix3 0 d k)) (fun d k => a1 (ix3 0 d k))
        (fun k j => b0 (ix3 0 k j)) (fun k j => b1 (ix3 0 k j)) j := by
  rw [pay20_ix]
  simp only [pay18_ix, pay17_ix, pay16_ix, pay15_ix, pay14_ix, pay13_ix, pay12_ix, pay11_ix, pay10_ix]
  rfl

theorem pay22_ix (v55 v56 v113) (r : Fin 64) (l : Fin 4) : k0_pay22 (F := Ideal) v55 v56 v113 (ix2 r l)
    = kw (pairs (score (fun d => v113 (ix3 0 r d)) (fun d l => v55 (ix2 d l))) (score (fun d => v113 (ix3 0 r d)) (fun d l => v56 (ix2 d l)))) l := by
  pointwise [k0_pay22, k0_pay21]
  rfl

theorem pay25_ix (v200 v232 v234 v239 v246 v251) (r : Fin 64) (l : Fin 512) : k0_pay25 (F := Ideal) (k0_pay21 v200) v232 k0_pay23 (k0_pay24 v200 v234) v239 v246 v251 (ix3 0 r l)
  = expt (fun d => v200 (ix3 0 r d)) (fun d k => v234 (ix3 0 d k)) (fun k j => v239 (ix3 0 k j)) l * v232 (ix2 r 0)
    + expt (fun d => v200 (ix3 0 r d)) (fun d k => v246 (ix3 0 d k)) (fun k j => v251 (ix3 0 k j)) l * v232 (ix2 r 1) := by
  pointwise [k0_pay25, k0_pay24, k0_pay23, k0_pay21]
  rfl
/-- The second tile, at an index. -/
theorem second_tile (v55 v56 v113 a0 b0 a1 b1) (r : Fin 64) (j : Fin 512) :
    k0_pay25 (F := Ideal) (k0_pay21 v113) (k0_pay22 v55 v56 v113) k0_pay23 (k0_pay24 v113 a0) b0 a1 b1 (ix3 0 r j)
    = terms (fun d => v113 (ix3 0 r d)) (fun d l => v55 (ix2 d l)) (fun d l => v56 (ix2 d l)) (fun d k => a0 (ix3 0 d k)) (fun d k => a1 (ix3 0 d k))
        (fun k j => b0 (ix3 0 k j)) (fun k j => b1 (ix3 0 k j)) j := by
  rw [pay25_ix, pay22_ix, pay22_ix]
  rfl
/-- What a device computes for its own rows, at an index. -/
theorem own_tile (x : Vec Ideal S256x512 .f32) (a b a0 b0 a1 b1) (r : Fin 256) (j : Fin 512) :
    k0_pay26 (F := Ideal) (k0_pay3 x) (k0_pay7 (k0_pay3 x) b (k0_pay6 (k0_pay3 x) a) (constant S256x2 .f32 0x00000000#32))
      (k0_pay8 (k0_pay3 x) b (k0_pay6 (k0_pay3 x) a) (constant S256x2 .f32 0x00000000#32) a0 b0) a1 b1 (ix2 r j)
    = terms (fun d => x (ix2 r d)) (fun d l => a (ix2 d l)) (fun d l => b (ix2 d l)) (fun d k => a0 (ix3 0 d k)) (fun d k => a1 (ix3 0 d k))
        (fun k j => b0 (ix3 0 k j)) (fun k j => b1 (ix3 0 k j)) j := by
  rw [pay26_ix, pay8_ix, pay7_ix, pay7_ix]
  simp only [pay6_ix, pay3_ix]
  rfl

end Cert.Exchange
end
-- ==== Proof.Reads.lean ====
/-
# What a device holds, at an index

The blocks a device stages, the half of its token rows it sends and the two tiles it receives, each read at an index
as an element of an argument array.
-/
module

public import proofs.«01_k».proof.Proof.Terms
public import proofs.«01_k».proof.Proof.Launch

@[expose] public section

set_option maxRecDepth 16384

noncomputable section

namespace Cert.Exchange

open Cert.KernelIdeal Cert.KernelIdeal.Gen

open Idealize.ShloMosaic
open Idealize.ShloMosaic.TcCoe

variable (m : (ℓ : Loc nD τ sig) → Buf (Elt Ideal) ℓ) (ρ : Dev nD → PrngReg)

theorem xst_eq (c : Dev nD) : xst m ρ c = m ((c : Thread nD τ).loc main_arg0) :=
  Memref.read_access_unit_zero (Elt Ideal) main_arg0 (show (fun a => (win0_0.index (0 : Fin 1)) a * main_arg0.ty.shape.size a) = fun _ => 0 from
    funext fun _ => Nat.zero_mul _) _ _

theorem rst_eq (c : Dev nD) : rst m ρ c = m ((c : Thread nD τ).loc main_arg1) :=
  Memref.read_access_unit_zero (Elt Ideal) main_arg1 (show (fun a => (win0_1.index (0 : Fin 1)) a * main_arg1.ty.shape.size a) = fun _ => 0 from
    funext fun _ => Nat.zero_mul _) _ _

theorem w1st_eq (c : Dev nD) : w1st m ρ c = m ((c : Thread nD τ).loc main_arg2) :=
  Memref.read_access_unit_zero (Elt Ideal) main_arg2 (show (fun a => (win0_2.index (0 : Fin 1)) a * main_arg2.ty.shape.size a) = fun _ => 0 from
    funext fun _ => Nat.zero_mul _) _ _

theorem w2st_eq (c : Dev nD) : w2st m ρ c = m ((c : Thread nD τ).loc main_arg3) :=
  Memref.read_access_unit_zero (Elt Ideal) main_arg3 (show (fun a => (win0_3.index (0 : Fin 1)) a * main_arg3.ty.shape.size a) = fun _ => 0 from
    funext fun _ => Nat.zero_mul _) _ _

theorem wA0_ix (c : Dev nD) (i : Fin 512) (d : Fin 1024) : wA0 m ρ c (ix3 0 i d) = w1st m ρ c (ix3 0 i d) := by
  unfold wA0
  refine congrArg (w1st m ρ c) (funext fun a => Fin.ext ?_)
  fin_cases a
  · rfl
  · show 0 + 1 * i.val = i.val; omega
  · show 0 + 1 * d.val = d.val; omega

theorem wA1_ix (c : Dev nD) (i : Fin 512) (d : Fin 1024) : wA1 m ρ c (ix3 0 i d) = w1st m ρ c (ix3 1 i d) := by
  unfold wA1
  refine congrArg (w1st m ρ c) (funext fun a => Fin.ext ?_)
  fin_cases a
  · rfl
  · show 0 + 1 * i.val = i.val; omega
  · show 0 + 1 * d.val = d.val; omega

theorem wB0_ix (c : Dev nD) (i : Fin 1024) (d : Fin 512) : wB0 m ρ c (ix3 0 i d) = w2st m ρ c (ix3 0 i d) := by
  unfold wB0
  refine congrArg (w2st m ρ c) (funext fun a => Fin.ext ?_)
  fin_cases a
  · rfl
  · show 0 + 1 * i.val = i.val; omega
  · show 0 + 1 * d.val = d.val; omega

theorem wB1_ix (c : Dev nD) (i : Fin 1024) (d : Fin 512) : wB1 m ρ c (ix3 0 i d) = w2st m ρ c (ix3 1 i d) := by
  unfold wB1
  refine congrArg (w2st m ρ c) (funext fun a => Fin.ext ?_)
  fin_cases a
  · rfl
  · show 0 + 1 * i.val = i.val; omega
  · show 0 + 1 * d.val = d.val; omega

/-- The half a device sends: its first 128 rows on the devices of the first row of the mesh, the others on the second. -/
theorem xs_ix (c : Dev nD) (i : Fin 128) (d : Fin 512) :
    xs m ρ c (ix2 i d) = xst m ρ c (ix2 ⟨128 * (c.val / 2) + i.val, by have : c.val < 4 := c.isLt; omega⟩ d) := by
  unfold xs
  fin_cases c <;> pointwise [k0_pay4, k0_pay3]
  all_goals rfl

theorem xo0_ix (c : Dev nD) (i : Fin 64) (d : Fin 512) : xo0 m ρ c (ix3 0 i d) = xs m ρ (yp c) (ix2 ⟨i.val, by omega⟩ d) := by
  unfold xo0
  pointwise
  refine congrArg (xs m ρ (yp c)) (funext fun a => Fin.ext ?_)
  fin_cases a
  · show 0 + 1 * i.val = i.val; omega
  · show 0 + 1 * d.val = d.val; omega

theorem xo1_ix (c : Dev nD) (i : Fin 64) (d : Fin 512) : xo1 m ρ c (ix3 0 i d) = xs m ρ (yp c) (ix2 ⟨64 + i.val, by omega⟩ d) := by
  unfold xo1
  pointwise
  refine congrArg (xs m ρ (yp c)) (funext fun a => Fin.ext ?_)
  fin_cases a
  · show 64 + 1 * i.val = 64 + i.val; omega
  · show 0 + 1 * d.val = d.val; omega

/-- The result array's one block, the whole array, is what the body left. -/
theorem finalA_out (c : Dev nD) : finalA m ρ c (4 : Fin 5) = outAt m ρ c := by
  have hr : (win0_4.blk (0 : Fin 1)).view.read (Elt Ideal) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← hr]
  exact (Memref.read_access_unit_zero (Elt Ideal) main_v1 (show (fun a => (win0_4.index (0 : Fin 1)) a * main_v1.ty.shape.size a) = fun _ => 0 from
    funext fun _ => Nat.zero_mul _) _ _).symm

end Cert.Exchange

end
-- ==== Proof.Route.lean ====
/-
# Which experts a row goes to

The kernel finds the two greatest of a row's four scores by thresholds. Where the greatest is finite and the two
greatest stand apart from each other and from the rest, the thresholds pick exactly those two, and the weights are the
quotients of the exponentials.
-/
module

public import proofs.«01_k».proof.Proof.Terms

@[expose] public section

noncomputable section

namespace Cert.Exchange

open Idealize.ShloMosaic

/-- The starting value of the maxima is the least extended real. -/
theorem lowest_eq : lowest = ⊥ := by
  unfold lowest
  simp [Ideal.ofBits, Ideal.ieee]

/-- The number of a condition that holds is one. -/
theorem flag_true (p : Prop) [Decidable p] (h : p) : flag p = 1 := by
  unfold flag
  rw [decide_eq_true h]
  simp [FloatOps.sitofp]

/-- The number of a condition that fails is zero. -/
theorem flag_false (p : Prop) [Decidable p] (h : ¬ p) : flag p = 0 := by
  unfold flag
  rw [decide_eq_false h]
  simp [FloatOps.sitofp]

/-- A score that no other exceeds is the maximum. -/
theorem top1_eq (g : Fin 4 → EReal) (a : Fin 4) (h : ∀ e, g e ≤ g a) : top1 g = g a := by
  unfold top1
  rw [lowest_eq]
  apply le_antisymm
  · rw [Finset.fold_max_le]; exact ⟨bot_le, fun e _ => h e⟩
  · rw [Finset.le_fold_max]; exact Or.inr ⟨a, Finset.mem_univ _, le_rfl⟩

/-- Positions `a` and `b` hold the two greatest of four scores, each apart from what lies below it, the greatest finite. -/
structure Apart (g : Fin 4 → EReal) (a b : Fin 4) : Prop where
  ne : a ≠ b
  fin : g a < ⊤
  lt : g b < g a
  below : ∀ e, e ≠ a → e ≠ b → g e < g b

namespace Apart

variable {g : Fin 4 → EReal} {a b : Fin 4}

/-- The first position holds the greatest score. -/
theorem le (h : Apart g a b) (e : Fin 4) : g e ≤ g a := by
  by_cases ha : e = a
  · rw [ha]
  by_cases hb : e = b
  · rw [hb]; exact h.lt.le
  exact ((h.below e ha hb).trans h.lt).le

/-- Beside two positions of four there is a third. -/
theorem exists_other (a b : Fin 4) : ∃ e : Fin 4, e ≠ a ∧ e ≠ b := by
  revert a b; decide

/-- The second score is above minus infinity, since a third lies below it. -/
theorem bot_lt (h : Apart g a b) : ⊥ < g b := by
  obtain ⟨e, ha, hb⟩ := exists_other a b
  exact bot_le.trans_lt (h.below e ha hb)

/-- A score that no other exceeds is the maximum. -/
theorem top1_eq (h : Apart g a b) : top1 g = g a := Exchange.top1_eq g a h.le

/-- Only the first position passes the first threshold. -/
theorem top1_le (h : Apart g a b) (e : Fin 4) : top1 g ≤ g e ↔ e = a := by
  rw [h.top1_eq]
  constructor
  · intro hle
    by_contra ha
    by_cases hb : e = b
    · rw [hb] at hle; exact absurd h.lt (not_lt.mpr hle)
    · exact absurd ((h.below e ha hb).trans h.lt) (not_lt.mpr hle)
  · intro he; rw [he]

/-- The first position is taken out before the second maximum, -/
theorem withoutTop_a (h : Apart g a b) : withoutTop g a = ⊥ := by
  unfold withoutTop
  rw [if_pos ((h.top1_le a).mpr rfl), lowest_eq]

/-- and no other is. -/
theorem withoutTop_ne (h : Apart g a b) {e : Fin 4} (he : e ≠ a) : withoutTop g e = g e := by
  unfold withoutTop
  rw [if_neg (fun hh => he ((h.top1_le e).mp hh))]

/-- The second maximum is the second score. -/
theorem top2_eq (h : Apart g a b) : top1 (withoutTop g) = g b := by
  rw [← h.withoutTop_ne h.ne.symm]
  refine Exchange.top1_eq _ b fun e => ?_
  rw [h.withoutTop_ne h.ne.symm]
  by_cases ha : e = a
  · rw [ha, h.withoutTop_a]; exact bot_le
  rw [h.withoutTop_ne ha]
  by_cases hb : e = b
  · rw [hb]
  exact (h.below e ha hb).le

/-- Only the second position passes the second threshold. -/
theorem top2_le (h : Apart g a b) (e : Fin 4) : top1 (withoutTop g) ≤ withoutTop g e ↔ e = b := by
  rw [h.top2_eq]
  constructor
  · intro hle
    by_cases ha : e = a
    · rw [ha, h.withoutTop_a] at hle
      exact absurd h.bot_lt (not_lt.mpr hle)
    · by_contra hb
      rw [h.withoutTop_ne ha] at hle
      exact absurd (h.below e ha hb) (not_lt.mpr hle)
  · intro he; rw [he, h.withoutTop_ne h.ne.symm]

/-- The weight at a position: one share at the greatest, the other at the second, nothing elsewhere. -/
theorem kw_eq (h : Apart g a b) (l : Fin 4) :
    kw g l = (if l = a then Ideal.div 1 (1 + Ideal.exp (g b - g a)) else 0)
      + (if l = b then Ideal.div (Ideal.exp (g b - g a)) (1 + Ideal.exp (g b - g a)) else 0) := by
  have hz : gap g = Ideal.exp (g b - g a) := by unfold gap; rw [h.top1_eq, h.top2_eq]
  unfold kw
  rw [hz]
  congr 1
  · by_cases hl : l = a
    · rw [if_pos hl, flag_true _ ((h.top1_le l).mpr hl), mul_one]
    · rw [if_neg hl, flag_false _ (fun hh => hl ((h.top1_le l).mp hh)), mul_zero]
  · by_cases hl : l = b
    · rw [if_pos hl, flag_true _ ((h.top2_le l).mpr hl), mul_one]
    · rw [if_neg hl, flag_false _ (fun hh => hl ((h.top2_le l).mp hh)), mul_zero]

/-- The greatest score less itself is zero, so its exponential is one. -/
theorem exp_self (h : Apart g a b) : Ideal.exp (g a - g a) = 1 := by
  have hb : g a ≠ ⊥ := (h.bot_lt.trans h.lt).ne'
  have ht : g a ≠ ⊤ := h.fin.ne
  rw [EReal.sub_self ht hb]
  exact (Ideal.exp_coe 0).trans (by simp)

end Apart

end Cert.Exchange

end
-- ==== Proof.RefValue.lean ====
/-
# The reference at an index

The reference's result is read at an index: the two greatest scores of the row, in descending order, weigh the results
of the experts at their positions.
-/
module

public import proofs.«01_k».proof.Proof.Terms
public import proofs.«01_k».proof.Proof.Route
public import proofs.«01_k».proof.Proof.Gen.ReferenceIdeal
public import proofs.«01_k».proof.Proof.Gen.ReferenceIdeal.Run
public import Idealize.ShloMosaic.Lib.SortFacts

@[expose] public section

set_option maxRecDepth 16384

noncomputable section

namespace Cert.Exchange

open Idealize.ShloMosaic Cert.ReferenceIdeal Cert.ReferenceIdeal.Gen

/-- The positions of four scores in descending order, equal ones in index order: the reference's order. -/
def order (g : Fin 4 → EReal) : Fin 4 → Fin 4 :=
  sortedFrom (fun k k' => FloatOps.cmpfTotal (F := Ideal) (φ := .f32) .gt (g k) (g k') == 1#1)

/-- The first two columns of four, read at an index. -/
theorem cut_ix {α : Type} (f : S512x4.Idx → α) (h : S512x4.Slices (fun _ => 0) S512x2) (R : Fin 512) (q : Fin 2) :
    extractStridedSlice S512x2 (fun _ => 0) f h (ix2 R q) = f (ix2 R ⟨q.val, by omega⟩) := by
  refine congrArg f (funext fun a => Fin.ext ?_)
  fin_cases a
  · show 0 + R.val = R.val; omega
  · show 0 + q.val = q.val; omega

/-- The row through an index, as a function of the column. -/
theorem along_ix (X : FVec Ideal S512x4 .f32) (R : Fin 512) (e : Fin 4) :
    (fun k : Fin 4 => X (Shape.Idx.along (ix2 R e : S512x4.Idx) (1 : Fin 2) k)) = fun k => X (ix2 R k) := by
  funext k
  refine congrArg X (funext fun a => ?_)
  fin_cases a <;> rfl

/-- The value `top_k` puts in a place is the score at the position the order has there. -/
theorem top_value (X : FVec Ideal S512x4 .f32) (h : S512x4.Slices (fun _ => 0) S512x2) (R : Fin 512) (q : Fin 2) :
    (Host.topK S512x2 1 (FloatOps.cmpfTotal (F := Ideal) (φ := .f32) .gt) X h).1 (ix2 R q)
      = X (ix2 R (order (fun e => X (ix2 R e)) ⟨q.val, by omega⟩)) := by
  unfold Host.topK Host.sort2
  dsimp only
  rw [dif_pos (by decide), cut_ix]
  dsimp only
  change (fun k : Fin 4 => X (Shape.Idx.along (ix2 R ⟨q.val, by omega⟩ : S512x4.Idx) (1 : Fin 2) k))
    (order (fun k : Fin 4 => X (Shape.Idx.along (ix2 R ⟨q.val, by omega⟩ : S512x4.Idx) (1 : Fin 2) k)) ⟨q.val, by omega⟩) = _
  rw [along_ix]

/-- The index `top_k` puts in a place is the position the order has there. -/
theorem top_index (X : FVec Ideal S512x4 .f32) (h : S512x4.Slices (fun _ => 0) S512x2) (R : Fin 512) (q : Fin 2) :
    (Host.topK S512x2 1 (FloatOps.cmpfTotal (F := Ideal) (φ := .f32) .gt) X h).2 (ix2 R q)
      = BitVec.ofNat 32 (order (fun e => X (ix2 R e)) ⟨q.val, by omega⟩).val := by
  unfold Host.topK Host.sort2
  dsimp only
  rw [dif_pos (by decide), cut_ix]
  dsimp only
  rw [dif_pos (by decide)]
  change BitVec.ofNat 32 (order (fun k : Fin 4 => X (Shape.Idx.along (ix2 R ⟨q.val, by omega⟩ : S512x4.Idx) (1 : Fin 2) k)) ⟨q.val, by omega⟩).val = _
  rw [along_ix]

/-- The scores of all rows. -/
def gates (x : FVec Ideal S512x512 .f32) (r : FVec Ideal S512x4 .f32) : FVec Ideal S512x4 .f32 :=
  Host.dotGeneral dot_S512x512_S512x4_S512x4_1_0_0_1_n_n none x r
/-- The two greatest scores of each row. -/
def vals (X : FVec Ideal S512x4 .f32) : FVec Ideal S512x2 .f32 := (Host.topK S512x2 1 (FloatOps.cmpfTotal (F := Ideal) (φ := .f32) .gt) X sliceFits_S512x4_S512x2).1
/-- The positions of the two greatest scores of each row. -/
def idxs (X : FVec Ideal S512x4 .f32) : IVec S512x2 32 := (Host.topK S512x2 1 (FloatOps.cmpfTotal (F := Ideal) (φ := .f32) .gt) X sliceFits_S512x4_S512x2).2
/-- The exponentials of two scores less the greater of them. -/
def shifted (v : FVec Ideal S512x2 .f32) : FVec Ideal S512x2 .f32 :=
  Host.exp (subf v (broadcastInDim S512x2 ![0, 1] bcast_S512x1_S512x2_0_1
    (broadcastInDim S512x1 ![0] bcast_S512_S512x1_0 (Host.reduce FloatOps.maximumf v (constant S_ FTy.f32 0xFF800000#32) reducesTo_S512x2_S512_d1 h_S_))))
/-- The weights: the exponentials over their sum. -/
def wts (v : FVec Ideal S512x2 .f32) : FVec Ideal S512x2 .f32 :=
  Host.divf (shifted v) (broadcastInDim S512x2 ![0, 1] bcast_S512x1_S512x2_0_1
    (broadcastInDim S512x1 ![0] bcast_S512_S512x1_0 (Host.reduceAdd (shifted v) (constant S_ FTy.f32 0#32) reducesTo_S512x2_S512_d1 h_S_)))
/-- One expert's result for all rows. -/
def expert (x : FVec Ideal S512x512 .f32) (a : FVec Ideal S1x512x1024 .f32) (b : FVec Ideal S1x1024x512 .f32) : FVec Ideal S512x512 .f32 :=
  Host.dotGeneral dot_S512x1024_S1024x512_S512x512_1_0_0_1_n_n none
    (maximumf (Host.dotGeneral dot_S512x512_S512x1024_S512x1024_1_0_0_1_n_n none x (shapeCast S512x1024 a shapeCasts_S1x512x1024_S512x1024))
      (broadcastInDim S512x1024 ![] bcast_S_S512x1024 (constant S_ FTy.f32 0#32)))
    (shapeCast S1024x512 b shapeCasts_S1x1024x512_S1024x512)
/-- An expert's weighted result on the rows of which one choice is expert `e`, zero on the others. -/
def slot (k : IVec S512x1 32) (w : FVec Ideal S512x1 .f32) (e : BitVec 32) (y : FVec Ideal S512x512 .f32) : FVec Ideal S512x512 .f32 :=
  select (broadcastInDim S512x512 ![0, 1] bcast_S512x1_S512x512_0_1 (cmpi .eq k (broadcastInDim S512x1 ![] bcast_S_S512x1 (constantI S_ 32 e))))
    (mulf y (broadcastInDim S512x512 ![0, 1] bcast_S512x1_S512x512_0_1 w))
    (broadcastInDim S512x512 ![] bcast_S_S512x512 (constant S_ .f32 0#32))
/-- An expert added to the sum so far, for both choices. -/
def both (k : IVec S512x2 32) (w : FVec Ideal S512x2 .f32) (e : BitVec 32) (y acc : FVec Ideal S512x512 .f32) : FVec Ideal S512x512 .f32 :=
  addf (addf acc (slot (extractStridedSlice S512x1 ![0, 0] k slices_S512x2_S512x1_0_0) (extractStridedSlice S512x1 ![0, 0] w slices_S512x2_S512x1_0_0) e y))
   (slot (extractStridedSlice S512x1 ![0, 1] k slices_S512x2_S512x1_0_1) (extractStridedSlice S512x1 ![0, 1] w slices_S512x2_S512x1_0_1) e y)
/-- The sum before any expert. -/
def zeros : FVec Ideal S512x512 .f32 := broadcastInDim S512x512 ![] bcast_S_S512x512 (constant S_ .f32 0#32)
/-- The reference's result as a function of the whole arrays. -/
def refOut (x : FVec Ideal S512x512 .f32) (r : FVec Ideal S512x4 .f32) (w1 : FVec Ideal S4x512x1024 .f32) (w2 : FVec Ideal S4x1024x512 .f32) : FVec Ideal S512x512 .f32 :=
  let k := idxs (gates x r)
  let w := wts (vals (gates x r))
  both k w 3#32 (expert x (extractStridedSlice S1x512x1024 ![3, 0, 0] w1 slices_S4x512x1024_S1x512x1024_3_0_0) (extractStridedSlice S1x1024x512 ![3, 0, 0] w2 slices_S4x1024x512_S1x1024x512_3_0_0))
  (both k w 2#32 (expert x (extractStridedSlice S1x512x1024 ![2, 0, 0] w1 slices_S4x512x1024_S1x512x1024_2_0_0) (extractStridedSlice S1x1024x512 ![2, 0, 0] w2 slices_S4x1024x512_S1x1024x512_2_0_0))
  (both k w 1#32 (expert x (extractStridedSlice S1x512x1024 ![1, 0, 0] w1 slices_S4x512x1024_S1x512x1024_1_0_0) (extractStridedSlice S1x1024x512 ![1, 0, 0] w2 slices_S4x1024x512_S1x1024x512_1_0_0))
  (both k w 0#32 (expert x (extractStridedSlice S1x512x1024 ![0, 0, 0] w1 slices_S4x512x1024_S1x512x1024_0_0_0) (extractStridedSlice S1x1024x512 ![0, 0, 0] w2 slices_S4x1024x512_S1x1024x512_0_0_0))
  zeros)))

/-- The value the reference's run leaves is `refOut` of its operands. -/
theorem res_eq (m : (ℓ : Loc nD τ sig) → Buf (Elt Ideal) ℓ) (c : Dev nD) : Value.res_main_v106 m c =
    refOut (m ((c.tc : Thread nD τ).loc main_arg0)) (m ((c.tc : Thread nD τ).loc main_arg1)) (m ((c.tc : Thread nD τ).loc main_arg2)) (m ((c.tc : Thread nD τ).loc main_arg3)) := by
  unfold Value.res_main_v106
  rfl

/-- A score is the product of a row of `x` and a column of the router. -/
theorem gates_ix (x r) (R : Fin 512) (e : Fin 4) : gates x r (ix2 R e) = ∑ d, x (ix2 R d) * r (ix2 d e) := by
  pointwise [gates]
/-- `shifted` at an index. -/
theorem shifted_ix (v) (R : Fin 512) (q : Fin 2) : shifted v (ix2 R q) = Ideal.exp (v (ix2 R q) - max (v (ix2 R 0)) (v (ix2 R 1))) := by
  pointwise [shifted]
  rw [show Finset.fold max (Ideal.ofBits FTy.f32 4286578688#32) (fun x => v (ix2 R x)) Finset.univ = max (v (ix2 R 0)) (v (ix2 R 1)) from ?_]
  change Finset.fold max lowest _ _ = _
  rw [lowest_eq]
  apply le_antisymm
  · rw [Finset.fold_max_le]
    exact ⟨bot_le, fun e _ => by fin_cases e; exacts [le_max_left _ _, le_max_right _ _]⟩
  · rw [Finset.le_fold_max]
    rcases le_total (v (ix2 R 0)) (v (ix2 R 1)) with h | h
    · exact Or.inr ⟨1, Finset.mem_univ _, max_le h le_rfl⟩
    · exact Or.inr ⟨0, Finset.mem_univ _, max_le le_rfl h⟩
/-- `wts` at an index. -/
theorem wts_ix (v) (R : Fin 512) (q : Fin 2) : wts v (ix2 R q) = Ideal.div (shifted v (ix2 R q)) (shifted v (ix2 R 0) + shifted v (ix2 R 1)) := by
  pointwise [wts]
  rw [Fin.sum_univ_two]
/-- One expert's result at an index. -/
theorem expert_ix (x a b) (R j : Fin 512) : expert x a b (ix2 R j) = expt (fun d => x (ix2 R d)) (fun d k => a (ix3 0 d k)) (fun k j => b (ix3 0 k j)) j := by
  pointwise [expert]
  rfl
/-- A choice by equality of two words. -/
theorem pick (a e : BitVec 32) (y z : EReal) : Scalar.select (IntOp.cmpi .eq a e) y z = if a = e then y else z := by
  by_cases h : a = e
  · subst h; simp [Scalar.select, IntOp.cmpi]
  · rw [if_neg h]; simp [Scalar.select, IntOp.cmpi, beq_eq_false_iff_ne.mpr h]

/-- `both` at an index. -/
theorem both_ix (k w e y acc) (R j : Fin 512) : both k w e y acc (ix2 R j) =
    (acc (ix2 R j) + (if k (ix2 R 0) = e then y (ix2 R j) * w (ix2 R 0) else 0)) + (if k (ix2 R 1) = e then y (ix2 R j) * w (ix2 R 1) else 0) := by
  pointwise [both, slot]
  rw [pick, pick]

/-- `vals` at an index. -/
theorem vals_ix (X) (R : Fin 512) (q : Fin 2) : vals X (ix2 R q) = X (ix2 R (order (fun e => X (ix2 R e)) ⟨q.val, by omega⟩)) :=
  top_value X _ R q

/-- `idxs` at an index. -/
theorem idxs_ix (X) (R : Fin 512) (q : Fin 2) : idxs X (ix2 R q) = BitVec.ofNat 32 (order (fun e => X (ix2 R e)) ⟨q.val, by omega⟩).val :=
  top_index X _ R q

/-- What the reference adds up over one row: the experts' results `y`, the positions `s0` and `s1` and their weights. -/
def picked (y : Fin 4 → EReal) (s0 s1 : Fin 4) (w0 w1 : EReal) : EReal :=
  ((((((((0 + if s0 = 0 then y 0 * w0 else 0) + if s1 = 0 then y 0 * w1 else 0)
    + if s0 = 1 then y 1 * w0 else 0) + if s1 = 1 then y 1 * w1 else 0)
    + if s0 = 2 then y 2 * w0 else 0) + if s1 = 2 then y 2 * w1 else 0)
    + if s0 = 3 then y 3 * w0 else 0) + if s1 = 3 then y 3 * w1 else 0)

/-- Two small numbers are equal where their words are. -/
theorem word_eq (s : Fin 4) (n : ℕ) (hn : n < 4) : (BitVec.ofNat 32 s.val = BitVec.ofNat 32 n) ↔ s = ⟨n, hn⟩ := by
  constructor
  · intro h
    have h' := congrArg BitVec.toNat h
    simp only [BitVec.toNat_ofNat] at h'
    apply Fin.ext
    show s.val = n
    have := s.isLt
    omega
  · intro h
    rw [h]

/-- The four scores of row `R`. -/
def scores (x : FVec Ideal S512x512 .f32) (r : FVec Ideal S512x4 .f32) (R : Fin 512) (e : Fin 4) : EReal := ∑ d, x (ix2 R d) * r (ix2 d e)

/-- Expert `e`'s result at row `R` and column `j`. -/
def outcome (x : FVec Ideal S512x512 .f32) (w1 : FVec Ideal S4x512x1024 .f32) (w2 : FVec Ideal S4x1024x512 .f32) (R j : Fin 512) (e : Fin 4) : EReal :=
  expt (fun d => x (ix2 R d)) (fun d k => w1 (ix3 e d k)) (fun k j => w2 (ix3 e k j)) j

/-- One expert's first matrix, read at an index. -/
theorem slice1_ix (o : ℕ) (e : Fin 4) (ho : o = e.val) (w1 : FVec Ideal S4x512x1024 .f32) (h : S4x512x1024.Slices ![o, 0, 0] S1x512x1024) (d : Fin 512) (k : Fin 1024) :
    extractStridedSlice S1x512x1024 ![o, 0, 0] w1 h (ix3 0 d k) = w1 (ix3 e d k) := by
  subst ho
  refine congrArg w1 (funext fun a => Fin.ext ?_)
  fin_cases a
  · show e.val + 0 = e.val; omega
  · show 0 + d.val = d.val; omega
  · show 0 + k.val = k.val; omega

/-- One expert's second matrix, read at an index. -/
theorem slice2_ix (o : ℕ) (e : Fin 4) (ho : o = e.val) (w2 : FVec Ideal S4x1024x512 .f32) (h : S4x1024x512.Slices ![o, 0, 0] S1x1024x512) (k : Fin 1024) (j : Fin 512) :
    extractStridedSlice S1x1024x512 ![o, 0, 0] w2 h (ix3 0 k j) = w2 (ix3 e k j) := by
  subst ho
  refine congrArg w2 (funext fun a => Fin.ext ?_)
  fin_cases a
  · show e.val + 0 = e.val; omega
  · show 0 + k.val = k.val; omega
  · show 0 + j.val = j.val; omega

/-- The result of the expert whose matrices are cut out at `o`. -/
theorem sliced_ix (o : ℕ) (e : Fin 4) (ho : o = e.val) (x : FVec Ideal S512x512 .f32) (w1 : FVec Ideal S4x512x1024 .f32) (w2 : FVec Ideal S4x1024x512 .f32)
    (h1 : S4x512x1024.Slices ![o, 0, 0] S1x512x1024) (h2 : S4x1024x512.Slices ![o, 0, 0] S1x1024x512) (R j : Fin 512) :
    expert x (extractStridedSlice S1x512x1024 ![o, 0, 0] w1 h1) (extractStridedSlice S1x1024x512 ![o, 0, 0] w2 h2) (ix2 R j) = outcome x w1 w2 R j e := by
  rw [expert_ix]
  simp only [slice1_ix o e ho, slice2_ix o e ho]
  rfl

theorem zeros_ix (R j : Fin 512) : zeros (ix2 R j) = 0 := by
  pointwise [zeros]

/-- The reference at an index, the order of the row's scores and the two exponentials being given. -/
theorem refOut_ix (x r w1 w2) (R j : Fin 512) (s : Fin 4 → Fin 4) (hs : s = order (scores x r R)) (z0 z1 : EReal)
    (h0 : z0 = Ideal.exp (scores x r R (s 0) - max (scores x r R (s 0)) (scores x r R (s 1))))
    (h1 : z1 = Ideal.exp (scores x r R (s 1) - max (scores x r R (s 0)) (scores x r R (s 1)))) :
    refOut x r w1 w2 (ix2 R j) = picked (outcome x w1 w2 R j) (s 0) (s 1) (Ideal.div z0 (z0 + z1)) (Ideal.div z1 (z0 + z1)) := by
  have hg : (fun e => gates x r (ix2 R e)) = scores x r R := funext fun e => gates_ix x r R e
  have hv0 : vals (gates x r) (ix2 R 0) = scores x r R (s 0) := by rw [vals_ix, hg, ← hs]; exact gates_ix x r R _
  have hv1 : vals (gates x r) (ix2 R 1) = scores x r R (s 1) := by rw [vals_ix, hg, ← hs]; exact gates_ix x r R _
  have hk0 : idxs (gates x r) (ix2 R 0) = BitVec.ofNat 32 (s 0).val := by rw [idxs_ix, hg, ← hs]; rfl
  have hk1 : idxs (gates x r) (ix2 R 1) = BitVec.ofNat 32 (s 1).val := by rw [idxs_ix, hg, ← hs]; rfl
  have hw0 : wts (vals (gates x r)) (ix2 R 0) = Ideal.div z0 (z0 + z1) := by rw [wts_ix, shifted_ix, shifted_ix, hv0, hv1, ← h0, ← h1]
  have hw1 : wts (vals (gates x r)) (ix2 R 1) = Ideal.div z1 (z0 + z1) := by rw [wts_ix, shifted_ix, shifted_ix, hv0, hv1, ← h0, ← h1]
  unfold refOut
  simp only [both_ix, hw0, hw1, hk0, hk1, zeros_ix]
  rw [sliced_ix 3 3 rfl, sliced_ix 2 2 rfl, sliced_ix 1 1 rfl, sliced_ix 0 0 rfl]
  simp only [word_eq _ 0 (by decide), word_eq _ 1 (by decide), word_eq _ 2 (by decide), word_eq _ 3 (by decide)]
  rfl

/-- The comparison of the sort is the order of the extended reals. -/
theorem gt_total (a b : EReal) : (FloatOps.cmpfTotal (F := Ideal) (φ := .f32) .gt a b == 1#1) = decide (b < a) := by
  show (BitVec.ofBool (decide (b < a)) == 1#1) = _
  by_cases h : b < a <;> simp [h]

/-- The order lists no position twice. -/
theorem order_injective (g : Fin 4 → EReal) : Function.Injective (order g) := sortedFrom_injective _

/-- Nothing later in the order is above anything earlier. -/
theorem order_le (g : Fin 4 → EReal) (i j : Fin 4) (hij : i < j) : g (order g j) ≤ g (order g i) := by
  have hR : (fun k k' => FloatOps.cmpfTotal (F := Ideal) (φ := .f32) .gt (g k) (g k') == 1#1) = fun k k' => decide (g k' < g k) :=
    funext fun k => funext fun k' => gt_total _ _
  have h := sortedFrom_noInversion (n := 4) (fun k k' => decide (g k' < g k)) (fun k k' => decide (g k' < g k))
    (fun a b h => by simp only [decide_eq_true_eq, decide_eq_false_iff_not] at h ⊢; exact not_lt.mpr h.le)
    (fun a b h => h)
    (fun a b c h h' => by simp only [decide_eq_false_iff_not, not_lt] at h h' ⊢; exact h.trans h') i j hij
  unfold order
  rw [hR]
  simpa only [decide_eq_false_iff_not, not_lt] using h

end Cert.Exchange

end
-- ==== Proof.Mask.lean ====
/-
# Where the claim compares the two programs

The condition the claim is stated under, read at an index: the row's greatest score is below plus infinity, and two
equal scores both lie below the other two. Under it the first two of the reference's order stand apart from each other
and from the rest.
-/
module

public import proofs.«01_k».proof.On_untied
public import proofs.«01_k».proof.Proof.Gen.On_untied
public import proofs.«01_k».proof.Proof.RefValue
public import Idealize.ShloMosaic.Lib.Pointwise

@[expose] public section

set_option maxRecDepth 16384

noncomputable section

namespace Cert.Exchange

open Idealize.ShloMosaic Cert.On_untied Cert.On_untied.Gen

/-- The conjunction of two bits. -/
theorem bit_and (a b : BitVec 1) : IntOp.andi a b = 1#1 ↔ a = 1#1 ∧ b = 1#1 := by
  revert a b; decide

/-- The disjunction of two bits. -/
theorem bit_or (a b : BitVec 1) : IntOp.ori a b = 1#1 ↔ a = 1#1 ∨ b = 1#1 := by
  revert a b; decide

/-- The bit of a condition. -/
theorem bit_of (p : Prop) [Decidable p] : BitVec.ofBool (decide p) = 1#1 ↔ p := by
  by_cases h : p <;> simp [h]

/-- The word of plus infinity. -/
theorem highest_eq : Ideal.ofBits FTy.f32 2139095040#32 = ⊤ := by
  simp [Ideal.ofBits, Ideal.ieee]

/-- The six pairs of scores: unequal, or both below the other two. -/
def Untied (g : Fin 4 → EReal) : Prop :=
  (((((top1 g < ⊤ ∧ (g 1 ≠ g 0 ∨ g 1 < g 2 ∧ g 1 < g 3)) ∧ (g 2 ≠ g 0 ∨ g 2 < g 1 ∧ g 2 < g 3))
    ∧ (g 2 ≠ g 1 ∨ g 2 < g 0 ∧ g 2 < g 3)) ∧ (g 3 ≠ g 0 ∨ g 3 < g 1 ∧ g 3 < g 2))
    ∧ (g 3 ≠ g 1 ∨ g 3 < g 0 ∧ g 3 < g 2)) ∧ (g 3 ≠ g 2 ∨ g 3 < g 0 ∧ g 3 < g 1)

/-- A row that the mask marks is untied. -/
theorem mask_ix (x r w1 w2) (R j : Fin 512) (h : Cert.On_untied.fn (F := Ideal) x r w1 w2 (ix2 R j) = 1#1) : Untied (scores x r R) := by
  pointwise [Cert.On_untied.fn, Cert.On_untied.fn_part1] at h
  simp only [bit_and, bit_or, bit_of, highest_eq] at h
  exact h

/-- Two equal scores lie below both the others. -/
theorem Untied.low {g : Fin 4 → EReal} (h : Untied g) (a b e : Fin 4) (hab : a ≠ b) (hg : g a = g b) (ha : e ≠ a) (hb : e ≠ b) : g a < g e := by
  obtain ⟨⟨⟨⟨⟨⟨-, h10⟩, h20⟩, h21⟩, h30⟩, h31⟩, h32⟩ := h
  fin_cases a <;> fin_cases b <;> fin_cases e <;> simp_all

/-- In an untied row the first two positions of the reference's order stand apart. -/
theorem Untied.apart {g : Fin 4 → EReal} (h : Untied g) : Apart g (order g 0) (order g 1) := by
  have hi := order_injective g
  have hl := order_le g
  have hne : ∀ i j : Fin 4, i ≠ j → order g i ≠ order g j := fun i j hij hh => hij (hi hh)
  have key : ∀ e, e ≠ order g 0 → e ≠ order g 1 → g e < g (order g 1) := by
    intro e h0 h1
    obtain ⟨i, rfl⟩ := (Finite.injective_iff_surjective.mp hi) e
    fin_cases i
    · exact absurd rfl h0
    · exact absurd rfl h1
    · refine lt_of_le_of_ne (hl 1 2 (by decide)) fun he => ?_
      exact absurd (h.low _ _ (order g 3) (hne 2 1 (by decide)) he (hne 3 2 (by decide)) (hne 3 1 (by decide))) (not_lt.mpr (hl 2 3 (by decide)))
    · refine lt_of_le_of_ne (hl 1 3 (by decide)) fun he => ?_
      have := h.low _ _ (order g 2) (hne 3 1 (by decide)) he (hne 2 3 (by decide)) (hne 2 1 (by decide))
      replace he : g (order g 3) = g (order g 1) := he
      rw [he] at this
      exact absurd this (not_lt.mpr (hl 1 2 (by decide)))
  have lt : g (order g 1) < g (order g 0) := by
    refine lt_of_le_of_ne (hl 0 1 (by decide)) fun he => ?_
    have := h.low _ _ (order g 2) (hne 1 0 (by decide)) he (hne 2 1 (by decide)) (hne 2 0 (by decide))
    exact absurd this (not_lt.mpr (hl 1 2 (by decide)))
  refine ⟨hne 0 1 (by decide), ?_, lt, key⟩
  have ht : top1 g = g (order g 0) := top1_eq g _ fun e => by
    obtain ⟨i, rfl⟩ := (Finite.injective_iff_surjective.mp hi) e
    by_cases h0 : i = 0
    · rw [h0]
    · exact hl 0 i (Fin.pos_of_ne_zero h0)
  rw [← ht]
  exact h.1.1.1.1.1.1

end Cert.Exchange

end
-- ==== Proof.Value.lean ====
/-
# The kernel's result is the reference's

Device `c` holds the rows of `x` and the experts of its column of the mesh, `c mod 2`. Its result at a row is what its own
two experts give that row, plus what the other column's two experts give it, which came back over the copies. Each is the
weighted sum of two experts by the same four scores, in another order; where the scores are untied the weights are
the reference's, and the four terms are the reference's sum.
-/
module

public import proofs.«01_k».proof.Proof.Reads
public import proofs.«01_k».proof.Proof.Mask
public import proofs.«01_k».proof.Proof.Body

@[expose] public section

set_option maxRecDepth 16384

noncomputable section

namespace Cert.Exchange

open Cert.KernelIdeal Cert.KernelIdeal.Gen

open Idealize.ShloMosaic
open Idealize.ShloMosaic.TcCoe

/-! ## The mesh -/

/-- The column of a device. -/
def col (c : Dev nD) : Fin 2 := ⟨c.val % 2, Nat.mod_lt _ (by decide)⟩

/-- The row of a device. -/
def half (c : Dev nD) : Fin 2 := ⟨c.val / 2, by have : c.val < 4 := c.isLt; omega⟩

theorem col_yp (c : Dev nD) : col (yp c) = 1 - col c := by revert c; decide
theorem col_xn (c : Dev nD) : col (xn c) = col c := by revert c; decide
theorem half_yp (c : Dev nD) : half (yp c) = half c := by revert c; decide
theorem half_xn (c : Dev nD) : half (xn c) = 1 - half c := by revert c; decide

theorem one_sub_sub (y : Fin 2) : 1 - (1 - y) = y := by revert y; decide

/-- Position `l` of column `y` among the four experts. -/
def at2 (y l : Fin 2) : Fin 4 := ⟨2 * y.val + l.val, by omega⟩

/-- Row `i` of column `y`'s block among the 512 rows. -/
def atRow (y : Fin 2) (i : Fin 256) : Fin 512 := ⟨256 * y.val + i.val, by omega⟩

/-- The expert at position `e` of the order a device of column `y` uses: its own two, then the other two. -/
def turn (y : Fin 2) (e : Fin 4) : Fin 4 := ⟨(2 * y.val + e.val) % 4, Nat.mod_lt _ (by decide)⟩

/-- Turning twice changes nothing, -/
theorem turn_turn (y : Fin 2) (e : Fin 4) : turn y (turn y e) = e := by revert y e; decide
/-- so turning is injective, -/
theorem turn_inj (y : Fin 2) {a b : Fin 4} (h : turn y a = turn y b) : a = b := by
  rw [← turn_turn y a, h, turn_turn]
/-- and can be moved to the other side of an equation. -/
theorem turn_eq (y : Fin 2) (a b : Fin 4) : a = turn y b ↔ turn y a = b :=
  ⟨fun h => by rw [h, turn_turn], fun h => by rw [← h, turn_turn]⟩

/-! ## The whole arrays -/

/-- The arrays of the four devices are the blocks of whole arrays. -/
structure Blocks (m : (ℓ : Loc nD τ sig) → Buf (Elt Ideal) ℓ) (x : FVec Ideal ⟨2, ![512, 512]⟩ .f32) (r : FVec Ideal ⟨2, ![512, 4]⟩ .f32)
    (w1 : FVec Ideal ⟨3, ![4, 512, 1024]⟩ .f32) (w2 : FVec Ideal ⟨3, ![4, 1024, 512]⟩ .f32) : Prop where
  hx : ∀ (c : Dev nD) (i : Fin 256) (d : Fin 512), (m ((c : Thread nD τ).loc main_arg0) : FVec Ideal S256x512 .f32) (ix2 i d) = x (ix2 (atRow (col c) i) d)
  hr : ∀ (c : Dev nD) (d : Fin 512) (l : Fin 2), (m ((c : Thread nD τ).loc main_arg1) : FVec Ideal S512x2 .f32) (ix2 d l) = r (ix2 d (at2 (col c) l))
  h1 : ∀ (c : Dev nD) (e : Fin 2) (d : Fin 512) (k : Fin 1024), (m ((c : Thread nD τ).loc main_arg2) : FVec Ideal S2x512x1024 .f32) (ix3 e d k) = w1 (ix3 (at2 (col c) e) d k)
  h2 : ∀ (c : Dev nD) (e : Fin 2) (k : Fin 1024) (d : Fin 512), (m ((c : Thread nD τ).loc main_arg3) : FVec Ideal S2x1024x512 .f32) (ix3 e k d) = w2 (ix3 (at2 (col c) e) k d)

section whole

variable (x : FVec Ideal ⟨2, ![512, 512]⟩ .f32) (r : FVec Ideal ⟨2, ![512, 4]⟩ .f32)
  (w1 : FVec Ideal ⟨3, ![4, 512, 1024]⟩ .f32) (w2 : FVec Ideal ⟨3, ![4, 1024, 512]⟩ .f32)

/-- What the two experts of column `y` give row `R` at output column `j`. -/
def share (y : Fin 2) (R j : Fin 512) : EReal :=
  terms (fun d => x (ix2 R d)) (fun d l => r (ix2 d (at2 y l))) (fun d l => r (ix2 d (at2 (1 - y) l)))
    (fun d k => w1 (ix3 (at2 y 0) d k)) (fun d k => w1 (ix3 (at2 y 1) d k)) (fun k j => w2 (ix3 (at2 y 0) k j)) (fun k j => w2 (ix3 (at2 y 1) k j)) j

/-- The four scores a device of column `y` computes are those of the row, turned. -/
theorem pairs_turn (y : Fin 2) (R : Fin 512) :
    pairs (score (fun d => x (ix2 R d)) (fun d l => r (ix2 d (at2 y l)))) (score (fun d => x (ix2 R d)) (fun d l => r (ix2 d (at2 (1 - y) l))))
      = fun e => scores x r R (turn y e) := by
  funext e
  fin_cases y <;> fin_cases e <;> rfl

/-- Positions that stand apart do so after turning. -/
theorem apart_turn {g : Fin 4 → EReal} {a b : Fin 4} (h : Apart g a b) (y : Fin 2) : Apart (fun e => g (turn y e)) (turn y a) (turn y b) where
  ne := fun hh => h.ne (turn_inj y hh)
  fin := by simpa only [turn_turn] using h.fin
  lt := by simpa only [turn_turn] using h.lt
  below := fun e ha hb => by
    simp only [turn_turn]
    exact h.below _ (fun hh => ha ((turn_eq y e a).mpr hh)) (fun hh => hb ((turn_eq y e b).mpr hh))

/-- The weight of an expert: one share if it is the first of the order, another if it is the second. -/
def weight (g : Fin 4 → EReal) (a b e : Fin 4) : EReal :=
  (if e = a then Ideal.div 1 (1 + Ideal.exp (g b - g a)) else 0)
    + (if e = b then Ideal.div (Ideal.exp (g b - g a)) (1 + Ideal.exp (g b - g a)) else 0)

/-- The kernel's weights are those of the experts, whichever column computes them. -/
theorem kw_turn {g : Fin 4 → EReal} {a b : Fin 4} (h : Apart g a b) (y : Fin 2) (l : Fin 4) :
    kw (fun e => g (turn y e)) l = weight g a b (turn y l) := by
  rw [(apart_turn h y).kw_eq]
  simp only [turn_turn, turn_eq]
  rfl

/-- A column's share, by the weights of its two experts. -/
theorem share_apart (y : Fin 2) (R j : Fin 512) {a b : Fin 4} (h : Apart (scores x r R) a b) :
    share x r w1 w2 y R j = outcome x w1 w2 R j (at2 y 0) * weight (scores x r R) a b (at2 y 0)
      + outcome x w1 w2 R j (at2 y 1) * weight (scores x r R) a b (at2 y 1) := by
  unfold share terms
  rw [pairs_turn, kw_turn h, kw_turn h]
  have e0 : turn y 0 = at2 y 0 := by revert y; decide
  have e1 : turn y 1 = at2 y 1 := by revert y; decide
  rw [e0, e1]
  rfl

/-- The experts' results by their weights add up to the reference's sum. -/
theorem picked_eq (v : Fin 4 → EReal) (a b : Fin 4) (hab : a ≠ b) (p q : EReal) :
    (v 0 * ((if 0 = a then p else 0) + if 0 = b then q else 0) + v 1 * ((if 1 = a then p else 0) + if 1 = b then q else 0))
      + (v 2 * ((if 2 = a then p else 0) + if 2 = b then q else 0) + v 3 * ((if 3 = a then p else 0) + if 3 = b then q else 0))
      = picked v a b p q := by
  unfold picked
  fin_cases a <;> fin_cases b <;> first | exact absurd rfl hab | simp [add_comm]

/-- The two columns' shares add up to the reference. -/
theorem shares_eq (y : Fin 2) (R j : Fin 512) (h : Untied (scores x r R)) :
    share x r w1 w2 y R j + share x r w1 w2 (1 - y) R j = refOut x r w1 w2 (ix2 R j) := by
  have ha := h.apart
  rw [refOut_ix x r w1 w2 R j _ rfl 1 (Ideal.exp (scores x r R (order (scores x r R) 1) - scores x r R (order (scores x r R) 0)))
    (by rw [max_eq_left ha.lt.le, ha.exp_self]) (by rw [max_eq_left ha.lt.le])]
  rw [share_apart x r w1 w2 y R j ha, share_apart x r w1 w2 (1 - y) R j ha, ← picked_eq _ _ _ ha.ne]
  fin_cases y
  · rfl
  · exact add_comm _ _

end whole

/-! ## The kernel -/

section kernel

variable (m : (ℓ : Loc nD τ sig) → Buf (Elt Ideal) ℓ) (ρ : Dev nD → PrngReg)
variable {x : FVec Ideal ⟨2, ![512, 512]⟩ .f32} {r : FVec Ideal ⟨2, ![512, 4]⟩ .f32}
  {w1 : FVec Ideal ⟨3, ![4, 512, 1024]⟩ .f32} {w2 : FVec Ideal ⟨3, ![4, 1024, 512]⟩ .f32} (hB : Blocks m x r w1 w2)

include hB

theorem xst_ix (c : Dev nD) (i : Fin 256) (d : Fin 512) : xst m ρ c (ix2 i d) = x (ix2 (atRow (col c) i) d) := by
  rw [xst_eq]; exact hB.hx c i d

theorem rst_ix (c : Dev nD) (d : Fin 512) (l : Fin 2) : rst m ρ c (ix2 d l) = r (ix2 d (at2 (col c) l)) := by
  rw [rst_eq]; exact hB.hr c d l

theorem rmine_ix (c : Dev nD) (d : Fin 512) (l : Fin 2) : rmine m ρ c (ix2 d l) = r (ix2 d (at2 (col c) l)) := by
  unfold rmine
  rw [pay5_ix]; exact rst_ix m ρ hB c d l

theorem ro_ix (c : Dev nD) (d : Fin 512) (l : Fin 2) : ro m ρ c (ix2 d l) = r (ix2 d (at2 (1 - col c) l)) := by
  rw [← col_yp]; exact rst_ix m ρ hB (yp c) d l

theorem a0_ix (c : Dev nD) (d : Fin 512) (k : Fin 1024) : wA0 m ρ c (ix3 0 d k) = w1 (ix3 (at2 (col c) 0) d k) := by
  rw [wA0_ix, w1st_eq]; exact hB.h1 c 0 d k

theorem a1_ix (c : Dev nD) (d : Fin 512) (k : Fin 1024) : wA1 m ρ c (ix3 0 d k) = w1 (ix3 (at2 (col c) 1) d k) := by
  rw [wA1_ix, w1st_eq]; exact hB.h1 c 1 d k

theorem b0_ix (c : Dev nD) (k : Fin 1024) (d : Fin 512) : wB0 m ρ c (ix3 0 k d) = w2 (ix3 (at2 (col c) 0) k d) := by
  rw [wB0_ix, w2st_eq]; exact hB.h2 c 0 k d

theorem b1_ix (c : Dev nD) (k : Fin 1024) (d : Fin 512) : wB1 m ρ c (ix3 0 k d) = w2 (ix3 (at2 (col c) 1) k d) := by
  rw [wB1_ix, w2st_eq]; exact hB.h2 c 1 k d

/-- What a device computes for its own rows is its column's share. -/
theorem mine_ix (c : Dev nD) (i : Fin 256) (j : Fin 512) : mine m ρ c (ix2 i j) = share x r w1 w2 (col c) (atRow (col c) i) j := by
  unfold mine
  rw [own_tile]
  simp only [xst_ix m ρ hB, rst_ix m ρ hB, ro_ix m ρ hB, a0_ix m ρ hB, a1_ix m ρ hB, b0_ix m ρ hB, b1_ix m ρ hB]
  rfl

/-- Row `i` of tile `t` of the half that devices of row `h` send. -/
def tileRow (h t : Fin 2) (i : Fin 64) : Fin 256 := ⟨128 * h.val + 64 * t.val + i.val, by omega⟩

theorem ps0_ix (c : Dev nD) (i : Fin 64) (j : Fin 512) :
    ps0 m ρ c (ix3 0 i j) = share x r w1 w2 (col c) (atRow (1 - col c) (tileRow (half c) 0 i)) j := by
  have hx : ∀ d, xo0 m ρ c (ix3 0 i d) = x (ix2 (atRow (1 - col c) (tileRow (half c) 0 i)) d) := fun d => by
    rw [xo0_ix, xs_ix, xst_ix m ρ hB, col_yp]
    have hh := congrArg Fin.val (half_yp c)
    refine congrArg (fun k => x (ix2 (atRow (1 - col c) k) d)) (Fin.ext ?_)
    show 128 * ((yp c).val / 2) + i.val = 128 * (half c).val + 64 * 0 + i.val
    have h2 : (half (yp c)).val = (yp c).val / 2 := rfl
    omega
  unfold ps0
  rw [first_tile]
  simp only [hx, rmine_ix m ρ hB, ro_ix m ρ hB, a0_ix m ρ hB, a1_ix m ρ hB, b0_ix m ρ hB, b1_ix m ρ hB]
  rfl

theorem ps1_ix (c : Dev nD) (i : Fin 64) (j : Fin 512) :
    ps1 m ρ c (ix3 0 i j) = share x r w1 w2 (col c) (atRow (1 - col c) (tileRow (half c) 1 i)) j := by
  have hx : ∀ d, xo1 m ρ c (ix3 0 i d) = x (ix2 (atRow (1 - col c) (tileRow (half c) 1 i)) d) := fun d => by
    rw [xo1_ix, xs_ix, xst_ix m ρ hB, col_yp]
    have hh := congrArg Fin.val (half_yp c)
    refine congrArg (fun k => x (ix2 (atRow (1 - col c) k) d)) (Fin.ext ?_)
    show 128 * ((yp c).val / 2) + (64 + i.val) = 128 * (half c).val + 64 * 1 + i.val
    have h2 : (half (yp c)).val = (yp c).val / 2 := rfl
    omega
  unfold ps1
  rw [second_tile]
  simp only [hx, rmine_ix m ρ hB, ro_ix m ρ hB, a0_ix m ρ hB, a1_ix m ρ hB, b0_ix m ρ hB, b1_ix m ρ hB]
  rfl

theorem cd0_ix (c : Dev nD) (i : Fin 64) (j : Fin 512) :
    cd0 m ρ c (ix3 0 i j) = share x r w1 w2 (1 - col c) (atRow (col c) (tileRow (half c) 0 i)) j := by
  unfold cd0
  rw [ps0_ix m ρ hB, col_yp, half_yp, one_sub_sub]

theorem cd1_ix (c : Dev nD) (i : Fin 64) (j : Fin 512) :
    cd1 m ρ c (ix3 0 i j) = share x r w1 w2 (1 - col c) (atRow (col c) (tileRow (half c) 1 i)) j := by
  unfold cd1
  rw [ps1_ix m ρ hB, col_yp, half_yp, one_sub_sub]

theorem cf0_ix (c : Dev nD) (i : Fin 64) (j : Fin 512) :
    cf0 m ρ c (ix3 0 i j) = share x r w1 w2 (1 - col c) (atRow (col c) (tileRow (1 - half c) 0 i)) j := by
  unfold cf0
  rw [cd0_ix m ρ hB, col_xn, half_xn]

theorem cf1_ix (c : Dev nD) (i : Fin 64) (j : Fin 512) :
    cf1 m ρ c (ix3 0 i j) = share x r w1 w2 (1 - col c) (atRow (col c) (tileRow (1 - half c) 1 i)) j := by
  unfold cf1
  rw [cd1_ix m ρ hB, col_xn, half_xn]

/-- What came back for a device's rows is the other column's share. -/
theorem back_ix (c : Dev nD) (i : Fin 256) (j : Fin 512) : back m ρ c (ix2 i j) = share x r w1 w2 (1 - col c) (atRow (col c) i) j := by
  have hc : c.val < 4 := c.isLt
  have hl : lowRow (ix2 i j : S256x512.Idx) = ix2 (⟨i.val % 64, Nat.mod_lt _ (by decide)⟩ : Fin 64) j := by
    funext a; fin_cases a <;> rfl
  have hs : ∀ (w : Vec Ideal S1x64x512 .f32) (k : Fin 64), shapeCast S64x512 w shapeCasts_S1x64x512_S64x512 (ix2 k j) = w (ix3 0 k j) := fun w k => by
    pointwise
  have hrow : ∀ h t : Fin 2, i.val / 64 = 2 * h.val + t.val → tileRow h t ⟨i.val % 64, Nat.mod_lt _ (by decide)⟩ = i := fun h t ht => by
    apply Fin.ext
    show 128 * h.val + 64 * t.val + i.val % 64 = i.val
    omega
  unfold back
  rw [hl, hs]
  have hi : i.val / 64 = 0 ∨ i.val / 64 = 1 ∨ i.val / 64 = 2 ∨ i.val / 64 = 3 := by omega
  show backTile m ρ c (i.val / 64) _ = _
  unfold backTile
  by_cases h2 : top c
  · have hh : half c = 0 := Fin.ext (show c.val / 2 = 0 by have : c.val < 2 := h2; omega)
    rw [if_pos h2]
    rcases hi with hi | hi | hi | hi <;> rw [hi]
    · exact (cd0_ix m ρ hB c _ j).trans (by rw [hh, hrow 0 0 hi])
    · exact (cd1_ix m ρ hB c _ j).trans (by rw [hh, hrow 0 1 hi])
    · exact (cf0_ix m ρ hB c _ j).trans (by rw [hh, show (1 - 0 : Fin 2) = 1 from rfl, hrow 1 0 hi])
    · exact (cf1_ix m ρ hB c _ j).trans (by rw [hh, show (1 - 0 : Fin 2) = 1 from rfl, hrow 1 1 hi])
  · have hh : half c = 1 := Fin.ext (show c.val / 2 = 1 by have : ¬ c.val < 2 := h2; omega)
    rw [if_neg h2]
    rcases hi with hi | hi | hi | hi <;> rw [hi]
    · exact (cf0_ix m ρ hB c _ j).trans (by rw [hh, show (1 - 1 : Fin 2) = 0 from rfl, hrow 0 0 hi])
    · exact (cf1_ix m ρ hB c _ j).trans (by rw [hh, show (1 - 1 : Fin 2) = 0 from rfl, hrow 0 1 hi])
    · exact (cd0_ix m ρ hB c _ j).trans (by rw [hh, hrow 1 0 hi])
    · exact (cd1_ix m ρ hB c _ j).trans (by rw [hh, hrow 1 1 hi])

/-- A device's result at an untied row is the reference's there. -/
theorem outAt_ix (c : Dev nD) (i : Fin 256) (j : Fin 512) (h : Untied (scores x r (atRow (col c) i))) :
    outAt m ρ c (ix2 i j) = refOut x r w1 w2 (ix2 (atRow (col c) i) j) := by
  rw [← shares_eq x r w1 w2 (col c) _ j h, ← mine_ix m ρ hB, ← back_ix m ρ hB]
  rfl

end kernel

end Cert.Exchange

end
-- ==== Proof.Claims.lean ====
/-
# The value claim

Every run of the kernel on the four devices leaves in each device's result the rows of the reference's result that the
device holds, at the rows the claim compares; every run of the reference leaves its result.
-/
module

public import proofs.«01_k».proof.Defs
public import proofs.«01_k».proof.Proof.Value
public import proofs.«01_k».proof.Proof.Launch

@[expose] public section

set_option maxRecDepth 16384

noncomputable section

namespace Cert.Exchange

open Cert.KernelIdeal Cert.KernelIdeal.Gen

open Idealize.ShloMosaic
open Idealize.ShloMosaic.TcCoe

/-- The block a device holds along `y` is its column. -/
theorem lin_col (c : Dev nD) : Layout.meshLin [2, 2] c.val [1] = (col c).val := by revert c; decide

/-- Where a row of a device's block stands in the whole. -/
theorem block_rows (c : Dev nD) (h : Layout.TilesN ⟨2, ![256, 512]⟩ ⟨2, ![512, 512]⟩ (fun b => Layout.cutSize [2, 2] ((![[1], []] : Fin 2 → List Nat) b)))
    (i : Fin 256) (d : Fin 512) : h.idx (Layout.meshBlock [2, 2] ![[1], []] c) (ix2 i d) = ix2 (atRow (col c) i) d := by
  funext a
  apply Fin.ext
  fin_cases a
  · show Layout.meshLin [2, 2] c.val [1] * 256 + i.val = 256 * (col c).val + i.val
    rw [lin_col]; omega
  · show 0 * 512 + d.val = d.val
    omega

/-- Where a column of a device's router block stands in the whole. -/
theorem block_router (c : Dev nD) (h : Layout.TilesN ⟨2, ![512, 2]⟩ ⟨2, ![512, 4]⟩ (fun b => Layout.cutSize [2, 2] ((![[], [1]] : Fin 2 → List Nat) b)))
    (d : Fin 512) (l : Fin 2) : h.idx (Layout.meshBlock [2, 2] ![[], [1]] c) (ix2 d l) = ix2 d (at2 (col c) l) := by
  funext a
  apply Fin.ext
  fin_cases a
  · show 0 * 512 + d.val = d.val
    omega
  · show Layout.meshLin [2, 2] c.val [1] * 2 + l.val = 2 * (col c).val + l.val
    rw [lin_col]; omega

/-- Where an expert of a device's first matrices stands in the whole. -/
theorem block_w1 (c : Dev nD) (h : Layout.TilesN ⟨3, ![2, 512, 1024]⟩ ⟨3, ![4, 512, 1024]⟩ (fun b => Layout.cutSize [2, 2] ((![[1], [], []] : Fin 3 → List Nat) b)))
    (e : Fin 2) (d : Fin 512) (k : Fin 1024) : h.idx (Layout.meshBlock [2, 2] ![[1], [], []] c) (ix3 e d k) = ix3 (at2 (col c) e) d k := by
  funext a
  apply Fin.ext
  fin_cases a
  · show Layout.meshLin [2, 2] c.val [1] * 2 + e.val = 2 * (col c).val + e.val
    rw [lin_col]; omega
  · show 0 * 512 + d.val = d.val
    omega
  · show 0 * 1024 + k.val = k.val
    omega

/-- Where an expert of a device's second matrices stands in the whole. -/
theorem block_w2 (c : Dev nD) (h : Layout.TilesN ⟨3, ![2, 1024, 512]⟩ ⟨3, ![4, 1024, 512]⟩ (fun b => Layout.cutSize [2, 2] ((![[1], [], []] : Fin 3 → List Nat) b)))
    (e : Fin 2) (k : Fin 1024) (d : Fin 512) : h.idx (Layout.meshBlock [2, 2] ![[1], [], []] c) (ix3 e k d) = ix3 (at2 (col c) e) k d := by
  funext a
  apply Fin.ext
  fin_cases a
  · show Layout.meshLin [2, 2] c.val [1] * 2 + e.val = 2 * (col c).val + e.val
    rw [lin_col]; omega
  · show 0 * 1024 + k.val = k.val
    omega
  · show 0 * 512 + d.val = d.val
    omega

/-- Every device's result is its rows of the reference's result, at the rows the claim compares. -/
theorem algebraic : Cert.algebraic_KernelIdeal_ReferenceIdeal_on_untied := by
  intro m ρ m' ρ' _ hagree
  have hB : Blocks m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)) := by
    constructor
    · intro c i d
      exact (congrFun (hagree c).1 (ix2 i d)).trans (congrArg _ (block_rows c _ i d))
    · intro c d l
      exact (congrFun (hagree c).2.1 (ix2 d l)).trans (congrArg _ (block_router c _ d l))
    · intro c e d k
      exact (congrFun (hagree c).2.2.1 (ix3 e d k)).trans (congrArg _ (block_w1 c _ e d k))
    · intro c e k d
      exact (congrFun (hagree c).2.2.2 (ix3 e k d)).trans (congrArg _ (block_w2 c _ e k d))
  refine ⟨Cert.ReferenceIdeal.Value.res_main_v106 m' 0, ?_, ?_⟩
  · refine (θ_run defs _ _).mono (fun r h c => ⟨fun i hi => ?_, ?_, ?_, ?_, ?_⟩) (run_main (F := Ideal) m ρ)
    · refine (congrFun ((h.1 c (4 : Fin 5)).trans (finalA_out m ρ c)) i).trans ?_
      obtain ⟨a, b, rfl⟩ : ∃ (a : Fin 256) (b : Fin 512), i = ix2 a b := ⟨i 0, i 1, eq_ix2 i⟩
      rw [Layout.blockN_apply, block_rows] at hi
      rw [Layout.blockN_apply, block_rows, res_eq]
      exact outAt_ix m ρ hB c a b (mask_ix _ _ _ _ _ _ hi)
    · exact (h.1 c (0 : Fin 5)).trans (finalA_in m ρ c 0 (by decide))
    · exact (h.1 c (1 : Fin 5)).trans (finalA_in m ρ c 1 (by decide))
    · exact (h.1 c (2 : Fin 5)).trans (finalA_in m ρ c 2 (by decide))
    · exact (h.1 c (3 : Fin 5)).trans (finalA_in m ρ c 3 (by decide))
  · exact (θ_run Cert.ReferenceIdeal.defs _ _).mono (fun _ h => ⟨fun i _ => congrFun (h 0).1 i, (h 0).2⟩)
      (Cert.ReferenceIdeal.Value.run m' ρ')

end Cert.Exchange

end
-- ==== Proof.lean ====
/-
# The certificate

The side conditions, the three frames, the preservation of the program and the value claim, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_untied
public import proofs.«01_k».proof.Proof.Frames
public import proofs.«01_k».proof.Proof.Claims

@[expose] public section

namespace Cert.Proof

theorem claim : Cert.Claim :=
  ⟨Cert.Kernel.Gen.facts, Cert.KernelIdeal.Gen.facts, Cert.ReferenceIdeal.Gen.facts, Cert.On_untied.Gen.facts,
    Cert.Exchange.frame_kernel, Cert.Exchange.frame_kernelIdeal, Cert.Exchange.frame_reference, trivial, Cert.Exchange.algebraic⟩

end Cert.Proof
